-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.PackStatement Cert.KernelIdeal.S512x128
  ∧ IdealRules.bf16_pair.Statement Cert.KernelIdeal.S1x512x2x128 Cert.KernelIdeal.S1x512x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x5120 : Shape := ⟨3, ![8, 2048, 5120]⟩
abbrev S5120x1280 : Shape := ⟨2, ![5120, 1280]⟩
abbrev S1280 : Shape := ⟨1, ![1280]⟩
abbrev S5120x256 : Shape := ⟨2, ![5120, 256]⟩
abbrev S256 : Shape := ⟨1, ![256]⟩
abbrev S1x1280 : Shape := ⟨2, ![1, 1280]⟩
abbrev S1x256 : Shape := ⟨2, ![1, 256]⟩
abbrev S8x10x2048x128 : Shape := ⟨4, ![8, 10, 2048, 128]⟩
abbrev S8x2048x2x128 : Shape := ⟨4, ![8, 2048, 2, 128]⟩
abbrev S8x1x2048 : Shape := ⟨3, ![8, 1, 2048]⟩
abbrev S1x512x5120 : Shape := ⟨3, ![1, 512, 5120]⟩
abbrev S1x10x512x128 : Shape := ⟨4, ![1, 10, 512, 128]⟩
abbrev S1x512x2x128 : Shape := ⟨4, ![1, 512, 2, 128]⟩
abbrev S1x1x512 : Shape := ⟨3, ![1, 1, 512]⟩
abbrev S512x5120 : Shape := ⟨2, ![512, 5120]⟩
abbrev S512x128 : Shape := ⟨2, ![512, 128]⟩
abbrev S1x32x5120 : Shape := ⟨3, ![1, 32, 5120]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S1x128 : Shape := ⟨2, ![1, 128]⟩
abbrev S1x1x128 : Shape := ⟨3, ![1, 1, 128]⟩
abbrev S512x256 : Shape := ⟨2, ![512, 256]⟩
abbrev S1x1x512x128 : Shape := ⟨4, ![1, 1, 512, 128]⟩
abbrev S1x512x1x128 : Shape := ⟨4, ![1, 512, 1, 128]⟩
abbrev S8x2048x10x128 : Shape := ⟨4, ![8, 2048, 10, 128]⟩
abbrev S8x2048x1 : Shape := ⟨3, ![8, 2048, 1]⟩

abbrev nBuf : Space → Nat
  | .hbm => 23
  | .vmem => 25
  | .smem => 0
  | _ => 0

abbrev bufTy : (tb : Table) → Fin (tcTables nBuf tb) → BufTy
  | .hbm, ⟨0, _⟩ => ⟨S8x2048x5120, .bf16⟩
  | .hbm, ⟨1, _⟩ => ⟨S5120x1280, .fp8e4m3⟩
  | .hbm, ⟨2, _⟩ => ⟨S1280, .f32⟩
  | .hbm, ⟨3, _⟩ => ⟨S1280, .bf16⟩
  | .hbm, ⟨4, _⟩ => ⟨S5120x256, .fp8e4m3⟩
  | .hbm, ⟨5, _⟩ => ⟨S256, .f32⟩
  | .hbm, ⟨6, _⟩ => ⟨S256, .bf16⟩
  | .hbm, ⟨7, _⟩ => ⟨S5120x256, .fp8e4m3⟩
  | .hbm, ⟨8, _⟩ => ⟨S256, .f32⟩
  | .hbm, ⟨9, _⟩ => ⟨S256, .bf16⟩
  | .hbm, ⟨10, _⟩ => ⟨S1x1280, .f32⟩
  | .hbm, ⟨11, _⟩ => ⟨S1x256, .f32⟩
  | .hbm, ⟨12, _⟩ => ⟨S1x256, .f32⟩
  | .hbm, ⟨13, _⟩ => ⟨S1x1280, .bf16⟩
  | .hbm, ⟨14, _⟩ => ⟨S1x256, .bf16⟩
  | .hbm, ⟨15, _⟩ => ⟨S1x256, .bf16⟩
  | .hbm, ⟨16, _⟩ => ⟨S8x10x2048x128, .bf16⟩
  | .hbm, ⟨17, _⟩ => ⟨S8x2048x2x128, .bf16⟩
  | .hbm, ⟨18, _⟩ => ⟨S8x2048x2x128, .bf16⟩
  | .hbm, ⟨19, _⟩ => ⟨S8x2048x5120, .fp8e4m3⟩
  | .hbm, ⟨20, _⟩ => ⟨S8x1x2048, .f32⟩
  | .hbm, ⟨21, _⟩ => ⟨S8x2048x10x128, .bf16⟩
  | .hbm, ⟨22, _⟩ => ⟨S8x2048x1, .f32⟩
  | .local _ .vmem, ⟨0, _⟩ => ⟨S1x512x5120, .bf16⟩
  | .local _ .vmem, ⟨1, _⟩ => ⟨S1x512x5120, .bf16⟩
  | .local _ .vmem, ⟨2, _⟩ => ⟨S5120x1280, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S1x1280, .f32⟩
  | .local _ .vmem, ⟨6, _⟩ => ⟨S1x256, .f32⟩
  | .local _ .vmem, ⟨7, _⟩ => ⟨S1x256, .f32⟩
  | .local _ .vmem, ⟨8, _⟩ => ⟨S1x1280, .bf16⟩
  | .local _ .vmem, ⟨9, _⟩ => ⟨S1x256, .bf16⟩
  | .local _ .vmem, ⟨10, _⟩ => ⟨S1x256, .bf16⟩
  | .local _ .vmem, ⟨11, _⟩ => ⟨S1x10x512x128, .bf16⟩
  | .local _ .vmem, ⟨12, _⟩ => ⟨S1x10x512x128, .bf16⟩
  | .local _ .vmem, ⟨13, _⟩ => ⟨S1x512x2x128, .bf16⟩
  | .local _ .vmem, ⟨14, _⟩ => ⟨S1x512x2x128, .bf16⟩
  | .local _ .vmem, ⟨15, _⟩ => ⟨S1x512x2x128, .bf16⟩
  | .local _ .vmem, ⟨16, _⟩ => ⟨S1x512x2x128, .bf16⟩
  | .local _ .vmem, ⟨17, _⟩ => ⟨S1x512x5120, .fp8e4m3⟩
  | .local _ .vmem, ⟨18, _⟩ => ⟨S1x512x5120, .fp8e4m3⟩
  | .local _ .vmem, ⟨19, _⟩ => ⟨S1x1x512, .f32⟩
  | .local _ .vmem, ⟨20, _⟩ => ⟨S1x1x512, .f32⟩
  | .local _ .vmem, ⟨21, _⟩ => ⟨S512x5120, .fp8e4m3⟩
  | .local _ .vmem, ⟨22, _⟩ => ⟨S512x5120, .fp8e4m3⟩
  | .local _ .vmem, ⟨23, _⟩ => ⟨S512x128, .f32⟩
  | .local _ .vmem, ⟨24, _⟩ => ⟨S512x128, .f32⟩
  | _, _ => ⟨S8x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [BitOps F]

abbrev grid0 : Pipeline.Grid := ⟨1, ![33], ![false]⟩

def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v15 : BitVec 1 := Scalar.andi v14 v10
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v19 : BitVec 1 := Scalar.xori v10 v_true
  let v20 : BitVec 1 := Scalar.andi v18 v19
  let v21 : BitVec 32 := Scalar.extui v20
  let c0_i32_9 : BitVec 32 := 0#32
  let v22 : BitVec 1 := Scalar.cmpi .ne v21 c0_i32_9
  v22

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c4_i32_14 : BitVec 32 := 4#32
  let v31 : BitVec 32 := Scalar.divsi v30 c4_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c4_i32_14 c0_i32_17
  let v38 : BitVec 32 := Scalar.extui v37
  let c0_i32_18 : BitVec 32 := 0#32
  let v39 : BitVec 1 := Scalar.cmpi .slt c4_i32_14 c0_i32_18
  let v40 : BitVec 32 := Scalar.extui v39
  let v41 : BitVec 32 := Scalar.subi v38 v40
  let v42 : BitVec 1 := Scalar.cmpi .ne v36 v41
  let v43 : BitVec 32 := Scalar.remsi v30 c4_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c4_i32_21 : BitVec 32 := 4#32
  let c0_i32_22 : BitVec 32 := 0#32
  let v48 : BitVec 1 := Scalar.cmpi .eq c4_i32_21 c0_i32_22
  let c1_i32_23 : BitVec 32 := 1#32
  let v49 : BitVec 32 := Scalar.select v48 c1_i32_23 c4_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  let c0_i32_29 : BitVec 32 := 0#32
  ![v18.toNat, c0_i32_27.toNat, v57.toNat, c0_i32_28.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_12 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_13 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_14 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c31_i32_10 : BitVec 32 := 31#32
  let v28 : BitVec 32 := Scalar.minsi arg0 c31_i32_10
  let c4_i32_11 : BitVec 32 := 4#32
  let v29 : BitVec 32 := Scalar.divsi v28 c4_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v28 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, c0_i32_24.toNat, v55.toNat]

abbrev stage0_0 : Fin 2 → Memref sig .tc .vmem S1x512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x10x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x2x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x5120 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F]
-- ==== ReferenceIdeal.lean ====
abbrev S8x2048x5120 : Shape := ⟨3, ![8, 2048, 5120]⟩
abbrev S5120x1280 : Shape := ⟨2, ![5120, 1280]⟩
abbrev S1280 : Shape := ⟨1, ![1280]⟩
abbrev S5120x256 : Shape := ⟨2, ![5120, 256]⟩
abbrev S256 : Shape := ⟨1, ![256]⟩
abbrev S8x2048x1280 : Shape := ⟨3, ![8, 2048, 1280]⟩
abbrev S8x2048x256 : Shape := ⟨3, ![8, 2048, 256]⟩
abbrev S8x2048x1 : Shape := ⟨3, ![8, 2048, 1]⟩
abbrev S8x2048 : Shape := ⟨2, ![8, 2048]⟩
abbrev S16384x5120 : Shape := ⟨2, ![16384, 5120]⟩
abbrev S16384x1280 : Shape := ⟨2, ![16384, 1280]⟩
abbrev S1x1x1280 : Shape := ⟨3, ![1, 1, 1280]⟩
abbrev S16384x256 : Shape := ⟨2, ![16384, 256]⟩
abbrev S1x1x256 : Shape := ⟨3, ![1, 1, 256]⟩
abbrev S8x2048x10x128 : Shape := ⟨4, ![8, 2048, 10, 128]⟩
abbrev S8x2048x2x128 : Shape := ⟨4, ![8, 2048, 2, 128]⟩

abbrev nBuf : Space → Nat
  | .hbm => 18
  | .vmem => 15
  | .smem => 0
  | _ => 0

abbrev bufTy : (tb : Table) → Fin (tcTables nBuf tb) → BufTy
  | .hbm, ⟨0, _⟩ => ⟨S8x2048x5120, .bf16⟩
  | .hbm, ⟨1, _⟩ => ⟨S5120x1280, .fp8e4m3⟩
  | .hbm, ⟨2, _⟩ => ⟨S1280, .f32⟩
  | .hbm, ⟨3, _⟩ => ⟨S1280, .bf16⟩
  | .hbm, ⟨4, _⟩ => ⟨S5120x256, .fp8e4m3⟩
  | .hbm, ⟨5, _⟩ => ⟨S256, .f32⟩
  | .hbm, ⟨6, _⟩ => ⟨S256, .bf16⟩
  | .hbm, ⟨7, _⟩ => ⟨S5120x256, .fp8e4m3⟩
  | .hbm, ⟨8, _⟩ => ⟨S256, .f32⟩
  | .hbm, ⟨9, _⟩ => ⟨S256, .bf16⟩
  | .hbm, ⟨10, _⟩ => ⟨S8x2048x1280, .bf16⟩
  | .hbm, ⟨11, _⟩ => ⟨S8x2048x256, .bf16⟩
  | .hbm, ⟨12, _⟩ => ⟨S8x2048x256, .bf16⟩
  | .hbm, ⟨13, _⟩ => ⟨S8x2048x5120, .fp8e4m3⟩
  | .hbm, ⟨14, _⟩ => ⟨S8x2048x1, .f32⟩
  | .hbm, ⟨15, _⟩ => ⟨S8x2048x10x128, .bf16⟩
  | .hbm, ⟨16, _⟩ => ⟨S8x2048x2x128, .bf16⟩
  | .hbm, ⟨17, _⟩ => ⟨S8x2048x2x128, .bf16⟩
  | .local _ .vmem, ⟨0, _⟩ => ⟨S8x2048x5120, .bf16⟩
  | .local _ .vmem, ⟨1, _⟩ => ⟨S5120x1280, .fp8e4m3⟩
  | .local _ .vmem, ⟨2, _⟩ => ⟨S1280, .f32⟩
  | .local _ .vmem, ⟨3, _⟩ => ⟨S1280, .bf16⟩
  | .local _ .vmem, ⟨4, _⟩ => ⟨S5120x256, .fp8e4m3⟩
  | .local _ .vmem, ⟨5, _⟩ => ⟨S256, .f32⟩
  | .local _ .vmem, ⟨6, _⟩ => ⟨S256, .bf16⟩
  | .local _ .vmem, ⟨7, _⟩ => ⟨S5120x256, .fp8e4m3⟩
  | .local _ .vmem, ⟨8, _⟩ => ⟨S256, .f32⟩
  | .local _ .vmem, ⟨9, _⟩ => ⟨S256, .bf16⟩
  | .local _ .vmem, ⟨10, _⟩ => ⟨S8x2048x1280, .bf16⟩
  | .local _ .vmem, ⟨11, _⟩ => ⟨S8x2048x256, .bf16⟩
  | .local _ .vmem, ⟨12, _⟩ => ⟨S8x2048x256, .bf16⟩
  | .local _ .vmem, ⟨13, _⟩ => ⟨S8x2048x5120, .fp8e4m3⟩
  | .local _ .vmem, ⟨14, _⟩ => ⟨S8x2048x1, .f32⟩
  | _, _ => ⟨S8x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8x2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2048x1280 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x2048x5120 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x2048x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KConds.lean ====
/- The printed kernel's branch conditions, names for its buffers, and the frame's post when nothing of the outputs is named. -/
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 2 rfl).trans ((hA c 2).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      (Pipeline.RDat.FramePostR.arr_in h c 3 rfl).trans ((hA c 3).trans (V_main_arg7 m c)),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at points 2, 4, 6, 8, 10, 12, 14, 16, 18, 20, 22, 24, 26, 28, 30 and 32 only — decided over the grid. -/
theorem hcond0_1 : ∀ t : Fin cfg0.N, cond0_1 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32) :=
  (by decide +kernel : ∀ t : Fin grid0.N, cond0_1 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x10x512x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x2x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x2x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x5120 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x512 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S512x5120 .fp8e4m3 := Memref.whole cc0_scratch0
abbrev scM0_1 : Memref sig .tc .vmem S512x5120 .fp8e4m3 := Memref.whole cc0_scratch1
abbrev scM0_2 : Memref sig .tc .vmem S512x128 .f32 := Memref.whole cc0_scratch2
abbrev scM0_3 : Memref sig .tc .vmem S512x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KRunA.lean ====
/- The printed kernel's body at the first point, its outputs at contents of no interest. -/
module

public import proofs.«01_k».proof.Proof.KConds

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1068000 in
/-- The body's triple IN CASE A (`scf.if` 0 taken, `scf.if` 1 not taken, `scf.if` 2 not taken: points 0): on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : cond0_0 i) (hc1 : ¬cond0_1 i) (hc2 : ¬cond0_2 i)
    (x0 : Vec F S1x512x5120 .bf16) (x1 : Vec F S5120x1280 .fp8e4m3) (x2 : Vec F S5120x256 .fp8e4m3) (x3 : Vec F S5120x256 .fp8e4m3) (x4 : Vec F S1x1280 .f32) (x5 : Vec F S1x256 .f32) (x6 : Vec F S1x256 .f32) (x7 : Vec F S1x1280 .bf16) (x8 : Vec F S1x256 .bf16) (x9 : Vec F S1x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_qkv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_qkv_fp8_eq_skeleton]; unfold cc0_qkv_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KRunB.lean ====
/- The printed kernel's body at an odd point, its outputs at contents of no interest. -/
module

public import proofs.«01_k».proof.Proof.KConds

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1500000 in
/-- The body's triple IN CASE B (`scf.if` 0 not taken, `scf.if` 1 not taken, `scf.if` 2 taken: points 1, 3, … 31: 16 of 33): on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : ¬cond0_1 i) (hc2 : cond0_2 i)
    (x0 : Vec F S1x512x5120 .bf16) (x1 : Vec F S5120x1280 .fp8e4m3) (x2 : Vec F S5120x256 .fp8e4m3) (x3 : Vec F S5120x256 .fp8e4m3) (x4 : Vec F S1x1280 .f32) (x5 : Vec F S1x256 .f32) (x6 : Vec F S1x256 .f32) (x7 : Vec F S1x1280 .bf16) (x8 : Vec F S1x256 .bf16) (x9 : Vec F S1x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_qkv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_qkv_fp8_eq_skeleton]; unfold cc0_qkv_fp8_skel
    simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KRunC.lean ====
/- The printed kernel's body at an even point after the first, its outputs at contents of no interest. -/
module

public import proofs.«01_k».proof.Proof.KConds

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1500000 in
/-- The body's triple IN CASE C (`scf.if` 0 not taken, `scf.if` 1 taken, `scf.if` 2 not taken: points 2, 4, … 32: 16 of 33): on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : ¬cond0_2 i)
    (x0 : Vec F S1x512x5120 .bf16) (x1 : Vec F S5120x1280 .fp8e4m3) (x2 : Vec F S5120x256 .fp8e4m3) (x3 : Vec F S5120x256 .fp8e4m3) (x4 : Vec F S1x1280 .f32) (x5 : Vec F S1x256 .f32) (x6 : Vec F S1x256 .f32) (x7 : Vec F S1x1280 .bf16) (x8 : Vec F S1x256 .bf16) (x9 : Vec F S1x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_qkv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_qkv_fp8_eq_skeleton]; unfold cc0_qkv_fp8_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KFrame.lean ====
/- The printed kernel's frame: the body's triple at every point with the outputs' contents forgotten, the run and the frame. -/
module

public import proofs.«01_k».proof.Proof.KRunA
public import proofs.«01_k».proof.Proof.KRunB
public import proofs.«01_k».proof.Proof.KRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14): nothing reads what the kernel leaves in them, so nothing
    of it is named (Lib/Pipeline/Dat.lean `Dat.toRForget`). -/
def forgets0 : Fin 15 → Bool := fun w => w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 33 := lt_of_lt_of_eq t.isLt (show cfg0.N = 33 from N_0)
  by_cases h0 : t.val % 33 = 0
  · by_cases h1 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32)
    · exfalso; omega
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
  · by_cases h1 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32)
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
    · by_cases h2 : t.val % 2 = 1
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12, 13, 14) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.Conds.lean ====
/- The kernel body's branch conditions over the 33 grid points, the points where an output window is idle, and names for the staging and scratch buffers. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at points 2, 4, 6, 8, 10, 12, 14, 16, 18, 20, 22, 24, 26, 28, 30 and 32 only — decided over the grid. -/
theorem hcond0_1 : ∀ t : Fin cfg0.N, cond0_1 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32) :=
  (by decide +kernel : ∀ t : Fin grid0.N, cond0_1 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → ¬cond0_2 (grid0.coords t) → (cfg0.win 10).flush t = false := by decide +kernel
/-- At the points of case B the printed configuration (`Cfg.idle`) calls output 10 live: the case stores into it. -/
theorem liveAt0_10_B : ∀ t : Fin cfg0.N, ¬cond0_0 (grid0.coords t) → ¬cond0_1 (grid0.coords t) → cond0_2 (grid0.coords t) → cfg0.idle 10 (grid0.coords t) = false := by decide +kernel
/-- At the points of case C the printed configuration (`Cfg.idle`) calls output 10 live: the case stores into it. -/
theorem liveAt0_10_C : ∀ t : Fin cfg0.N, ¬cond0_0 (grid0.coords t) → cond0_1 (grid0.coords t) → ¬cond0_2 (grid0.coords t) → cfg0.idle 10 (grid0.coords t) = false := by decide +kernel
/-- At the points of case A the printed configuration (`Cfg.idle`) calls output 11 idle: the case stores nothing into it. -/
theorem idleAt0_11_A : ∀ t : Fin cfg0.N, cond0_0 (grid0.coords t) → ¬cond0_1 (grid0.coords t) → ¬cond0_2 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → ¬cond0_2 (grid0.coords t) → (cfg0.win 11).flush t = false := by decide +kernel
/-- At the points of case B the printed configuration (`Cfg.idle`) calls output 11 live: the case stores into it. -/
theorem liveAt0_11_B : ∀ t : Fin cfg0.N, ¬cond0_0 (grid0.coords t) → ¬cond0_1 (grid0.coords t) → cond0_2 (grid0.coords t) → cfg0.idle 11 (grid0.coords t) = false := by decide +kernel
/-- At the points of case C the printed configuration (`Cfg.idle`) calls output 11 live: the case stores into it. -/
theorem liveAt0_11_C : ∀ t : Fin cfg0.N, ¬cond0_0 (grid0.coords t) → cond0_1 (grid0.coords t) → ¬cond0_2 (grid0.coords t) → cfg0.idle 11 (grid0.coords t) = false := by decide +kernel
/-- At the points of case A the printed configuration (`Cfg.idle`) calls output 12 idle: the case stores nothing into it. -/
theorem idleAt0_12_A : ∀ t : Fin cfg0.N, cond0_0 (grid0.coords t) → ¬cond0_1 (grid0.coords t) → ¬cond0_2 (grid0.coords t) → cfg0.idle 12 (grid0.coords t) = true := by decide +kernel
/-- At the points of case A the pipeline does not write output 12's block back. -/
theorem noFlush0_12_A : ∀ t : Fin cfg0.N, cond0_0 (grid0.coords t) → ¬cond0_1 (grid0.coords t) → ¬cond0_2 (grid0.coords t) → (cfg0.win 12).flush t = false := by decide +kernel
/-- At the points of case B the printed configuration (`Cfg.idle`) calls output 12 live: the case stores into it. -/
theorem liveAt0_12_B : ∀ t : Fin cfg0.N, ¬cond0_0 (grid0.coords t) → ¬cond0_1 (grid0.coords t) → cond0_2 (grid0.coords t) → cfg0.idle 12 (grid0.coords t) = false := by decide +kernel
/-- At the points of case C the printed configuration (`Cfg.idle`) calls output 12 live: the case stores into it. -/
theorem liveAt0_12_C : ∀ t : Fin cfg0.N, ¬cond0_0 (grid0.coords t) → cond0_1 (grid0.coords t) → ¬cond0_2 (grid0.coords t) → cfg0.idle 12 (grid0.coords t) = false := by decide +kernel
/-- At the points of case A the printed configuration (`Cfg.idle`) calls output 13 live: the case stores into it. -/
theorem liveAt0_13_A : ∀ t : Fin cfg0.N, cond0_0 (grid0.coords t) → ¬cond0_1 (grid0.coords t) → ¬cond0_2 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → ¬cond0_1 (grid0.coords t) → cond0_2 (grid0.coords t) → cfg0.idle 13 (grid0.coords t) = false := by decide +kernel
/-- At the points of case C the printed configuration (`Cfg.idle`) calls output 13 live: the case stores into it. -/
theorem liveAt0_13_C : ∀ t : Fin cfg0.N, ¬cond0_0 (grid0.coords t) → cond0_1 (grid0.coords t) → ¬cond0_2 (grid0.coords t) → cfg0.idle 13 (grid0.coords t) = false := by decide +kernel
/-- At the points of case A the printed configuration (`Cfg.idle`) calls output 14 live: the case stores into it. -/
theorem liveAt0_14_A : ∀ t : Fin cfg0.N, cond0_0 (grid0.coords t) → ¬cond0_1 (grid0.coords t) → ¬cond0_2 (grid0.coords t) → cfg0.idle 14 (grid0.coords t) = false := by decide +kernel
/-- At the points of case B the printed configuration (`Cfg.idle`) calls output 14 live: the case stores into it. -/
theorem liveAt0_14_B : ∀ t : Fin cfg0.N, ¬cond0_0 (grid0.coords t) → ¬cond0_1 (grid0.coords t) → cond0_2 (grid0.coords t) → cfg0.idle 14 (grid0.coords t) = false := by decide +kernel
/-- At the points of case C the printed configuration (`Cfg.idle`) calls output 14 live: the case stores into it. -/
theorem liveAt0_14_C : ∀ t : Fin cfg0.N, ¬cond0_0 (grid0.coords t) → cond0_1 (grid0.coords t) → ¬cond0_2 (grid0.coords t) → cfg0.idle 14 (grid0.coords t) = false := by decide +kernel

/-! ## The kernel body on any staging memrefs: a subtype the run finds -/

/-- One staging buffer of output window 10, through which its contents are stated (`View.read_writes_of_cover`: the
    choice does not matter). -/
abbrev VO0_10 : View sig .tc .vmem S1x10x512x128 .bf16 := (Memref.whole cc0_stg10_0 : Memref sig .tc .vmem S1x10x512x128 .bf16).view
/-- One staging buffer of output window 11, through which its contents are stated (`View.read_writes_of_cover`: the
    choice does not matter). -/
abbrev VO0_11 : View sig .tc .vmem S1x512x2x128 .bf16 := (Memref.whole cc0_stg11_0 : Memref sig .tc .vmem S1x512x2x128 .bf16).view
/-- One staging buffer of output window 12, through which its contents are stated (`View.read_writes_of_cover`: the
    choice does not matter). -/
abbrev VO0_12 : View sig .tc .vmem S1x512x2x128 .bf16 := (Memref.whole cc0_stg12_0 : Memref sig .tc .vmem S1x512x2x128 .bf16).view
/-- One staging buffer of output window 13, through which its contents are stated (`View.read_writes_of_cover`: the
    choice does not matter). -/
abbrev VO0_13 : View sig .tc .vmem S1x512x5120 .fp8e4m3 := (Memref.whole cc0_stg13_0 : Memref sig .tc .vmem S1x512x5120 .fp8e4m3).view
/-- One staging buffer of output window 14, through which its contents are stated (`View.read_writes_of_cover`: the
    choice does not matter). -/
abbrev VO0_14 : View sig .tc .vmem S1x1x512 .f32 := (Memref.whole cc0_stg14_0 : Memref sig .tc .vmem S1x1x512 .f32).view
/-- Each window's current staging memref at point `t`, spelled as the pipeline passes it (`bodyAt0`), and its wholeness. -/
abbrev ms0_0 (t : Fin cfg0.N) : Memref sig .tc .vmem S1x512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x10x512x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x2x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x2x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x5120 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x512 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S512x5120 .fp8e4m3 := Memref.whole cc0_scratch0
abbrev scM0_1 : Memref sig .tc .vmem S512x5120 .fp8e4m3 := Memref.whole cc0_scratch1
abbrev scM0_2 : Memref sig .tc .vmem S512x128 .f32 := Memref.whole cc0_scratch2
abbrev scM0_3 : Memref sig .tc .vmem S512x128 .f32 := Memref.whole cc0_scratch3
/-- The scratch `arg16` the kernel carries between points, as a view: what it holds is stated through it. -/
abbrev VS0_0 : View sig .tc .vmem S512x5120 .fp8e4m3 := scM0_0.view
/-- The scratch `arg17` the kernel carries between points, as a view: what it holds is stated through it. -/
abbrev VS0_1 : View sig .tc .vmem S512x5120 .fp8e4m3 := scM0_1.view
/-- The scratch `arg18` the kernel carries between points, as a view: what it holds is stated through it. -/
abbrev VS0_2 : View sig .tc .vmem S512x128 .f32 := scM0_2.view
/-- The scratch `arg19` the kernel carries between points, as a view: what it holds is stated through it. -/
abbrev VS0_3 : View sig .tc .vmem S512x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.RunA.lean ====
/- The kernel body's run at the first point: the tile is quantised into the first pair of scratch buffers, nothing is projected. -/
module

public import proofs.«01_k».proof.Proof.Conds

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1068000 in
/-- What the body's stores leave in each output's staging memref, as pieces (last first) IN CASE A (`scf.if` 0 taken, `scf.if` 1 not taken, `scf.if` 2 not taken: points 0), WITH the
    proof that on whole staging memrefs — the inputs' at their contents, the outputs it leaves idle (10, 11, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : cond0_0 i) (hc1 : ¬cond0_1 i) (hc2 : ¬cond0_2 i)
    (x0 : Vec F S1x512x5120 .bf16) (x1 : Vec F S5120x1280 .fp8e4m3) (x2 : Vec F S5120x256 .fp8e4m3) (x3 : Vec F S5120x256 .fp8e4m3) (x4 : Vec F S1x1280 .f32) (x5 : Vec F S1x256 .f32) (x6 : Vec F S1x256 .f32) (x7 : Vec F S1x1280 .bf16) (x8 : Vec F S1x256 .bf16) (x9 : Vec F S1x256 .bf16) (xs1 : Vec F S512x5120 .fp8e4m3) (xs3 : Vec F S512x128 .f32) :
    Σ' (L10 : List (View.Piece (Elt F) S1x10x512x128 .bf16)), Σ' (L11 : List (View.Piece (Elt F) S1x512x2x128 .bf16)), Σ' (L12 : List (View.Piece (Elt F) S1x512x2x128 .bf16)), Σ' (L13 : List (View.Piece (Elt F) S1x512x5120 .fp8e4m3)), Σ' (L14 : List (View.Piece (Elt F) S1x1x512 .f32)), Σ' (LS0 : List (View.Piece (Elt F) S512x5120 .fp8e4m3)), Σ' (LS1 : List (View.Piece (Elt F) S512x5120 .fp8e4m3)), Σ' (LS2 : List (View.Piece (Elt F) S512x128 .f32)), { LS3 : List (View.Piece (Elt F) S512x128 .f32) //
      ∀ (xi10 : Vec F S1x10x512x128 .bf16) (xi11 : Vec F S1x512x2x128 .bf16) (xi12 : Vec F S1x512x2x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs1 ∗ (∃ d, owns (c : Thread nD τ) arg18 fullShare d) ∗ owns (c : Thread nD τ) arg19 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ owns (c : Thread nD τ) arg17 fullShare xs1 ∗ (∃ f, arg18.view.loc (c : Thread nD τ) ↦[arg18.view.set]{fullShare} arg18.view.writes (Elt F) f LS2) ∗ owns (c : Thread nD τ) arg19 fullShare xs3) -∗ K ⟨⟩))
          ⊢ wp frame (wpE (defs₀ (F := F)) Variants.none c none) E (cc0_qkv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], [], ?_, ?_, ?_, [], ?_, [], fun xi10 xi11 xi12 E K => ?run⟩
  case run =>
    simp only [cc0_qkv_fp8_eq_skeleton]; unfold cc0_qkv_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hfs1; obtain rfl := harg19.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [HS0]; · iexists _; iexact HS0
    isplitl [HS1]
    · iexists _; isplitr; · ipureintro; exact harg17.read_unread _
      iexact HS1
    isplitl [HS2]; · iexists _; iexact HS2
    iexists _; isplitr; · ipureintro; exact harg19.read_unread _
    iexact HS3

end Cert.KernelIdeal.Gen

end
-- ==== Proof.Rows.lean ====
/- One activation row over the extended reals: its greatest magnitude, the power-of-two exponent taken from it, the
   scale, the codes, and one entry of a projection. Both programs' values are stated through these. -/
module

public import Idealize.ShloMosaic.PureOps.Ideal
public import Idealize.ShloMosaic.Lib.ValueLayout
public import Idealize.ShloMosaic.Lib.ValueLayoutCasts

@[expose] public section

noncomputable section

namespace Cert.Rows

open Idealize.ShloMosaic Idealize.ShloMosaic.ValueIdx

/-- The shape of a single number. -/
abbrev U0 : Shape := ⟨0, ![]⟩

/-- A row's greatest magnitude. -/
def amax (f : Fin 5120 → EReal) : EReal :=
  (Finset.univ : Finset (Fin 5120)).fold max ⊥ (fun k => FloatOps.absf (F := Ideal) (φ := .f32) (f k))

/-- The exponent taken from the greatest magnitude: zero for a row of zeros or an infinite row. -/
def expo (a : EReal) : EReal :=
  have v : FVec Ideal U0 .f32 := fun _ => a
  have scaled : FVec Ideal U0 .f32 := mulf v (broadcast U0 (Scalar.ofBits (F := Ideal) .f32 0x3B124925#32))
  have plain : IVec U0 1 := ori (cmpf .oeq v (broadcast U0 (Scalar.ofBits (F := Ideal) .f32 0x00000000#32)))
    (cmpf .oeq v (broadcast U0 (Scalar.ofBits (F := Ideal) .f32 0x7F800000#32)))
  have zero : FVec Ideal U0 .f32 := broadcast U0 (Scalar.ofBits (F := Ideal) .f32 0x00000000#32)
  have e : FVec Ideal U0 .f32 := addf (floor (divf (log scaled) (broadcast U0 (Scalar.ofBits (F := Ideal) .f32 0x3F317218#32))))
    (broadcast U0 (Scalar.ofBits (F := Ideal) .f32 0x3F800000#32))
  (select plain zero e : FVec Ideal U0 .f32) ix0

/-- Two to a power. -/
def pow2 (e : EReal) : EReal := (exp2 (fun _ => e : FVec Ideal U0 .f32) : FVec Ideal U0 .f32) ix0

/-- A row's exponent. -/
def rowE (f : Fin 5120 → EReal) : EReal := expo (amax f)

/-- A row's scale. -/
def rowS (f : Fin 5120 → EReal) : EReal := pow2 (rowE f)

/-- The element scaled down and kept in the eight-bit format's range. -/
def clip (x e : EReal) : EReal :=
  min (Scalar.ofBits (F := Ideal) .f32 0x43E00000#32 : EReal)
    (max (Scalar.ofBits (F := Ideal) .f32 0xC3E00000#32 : EReal)
      (x * pow2 ((Scalar.ofBits (F := Ideal) .f32 0x00000000#32 : EReal) - e)))

/-- A row's codes. -/
def rowC (f : Fin 5120 → EReal) (k : Fin 5120) : EReal := clip (f k) (rowE f)

/-- One entry of a projection: the product of codes and weights, scaled by the row and the column, plus the bias. -/
def lin (c w : Fin 5120 → EReal) (r s b : EReal) : EReal :=
  ((Scalar.ofBits (F := Ideal) .f32 0x00000000#32 : EReal) + ∑ k : Fin 5120, c k * w k) * r * s + b

/-- The least value of either format is the same bottom element. -/
theorem bot_bf16 : FloatOps.ofBits (F := Ideal) .bf16 0xFF80#16 = (⊥ : EReal) := by
  rw [Ideal.ofBits_def]; simp [Ideal.ofBits, Ideal.ieee]
theorem bot_f32 : FloatOps.ofBits (F := Ideal) .f32 0xFF800000#32 = (⊥ : EReal) := by
  rw [Ideal.ofBits_def]; simp [Ideal.ofBits, Ideal.ieee]

end Cert.Rows

end
-- ==== Proof.Tiles.lean ====
/- What the kernel's two tile computations give at an index, over the extended reals: the quantiser on 32 rows, and the
   projection of 512 quantised rows onto 256 columns. -/
module

public import proofs.«01_k».proof.Proof.Rows
public import proofs.«01_k».proof.Proof.Conds
public import Idealize.ShloMosaic.Lib.MatmulPlain
public import Idealize.ShloMosaic.Lib.WholeRead
public import Idealize.ShloMosaic.Lib.Pipeline.ValueKit

@[expose] public section

set_option maxRecDepth 16384

noncomputable section

namespace Cert.KernelIdeal.Gen

open Idealize.ShloMosaic hiding ix1 ix2 ix3 eq_ix2 eq_ix3
open Idealize.ShloMosaic.ValueIdx Cert.Rows

/-! ## The quantiser on 32 rows -/

/-- Widening changes nothing over the extended reals. -/
theorem extf_at {s : Shape} (v : FVec Ideal s .bf16) (h) (i : s.Idx) : extf (F := Ideal) .f32 v h i = v i := rfl

/-- Row `r` of a tile. -/
def tileRow (v : S1x32x5120.Idx → EReal) (r : Fin 32) : Fin 5120 → EReal := fun k => v (ix3 (0 : Fin 1) r k)

theorem pay6_apply (v : Vec Ideal S1x32x5120 .bf16) (r : Fin 32) (k : Fin 5120) :
    k0_pay6 (F := Ideal) v (ix2 r k) = tileRow v r k :=
  shapeCast_1ab_ab_apply _ _ r k

/-- The rows' greatest magnitudes. -/
def redV (v : Vec Ideal S1x32x5120 .bf16) : FVec Ideal S32 .bf16 :=
  multiReduction .maximumf [1] S32 (absf (k0_pay6 (F := Ideal) v)) 0xFF80#16 reduces_S32x5120_S32 (.inr rfl) rfl

theorem redV_apply (v : Vec Ideal S1x32x5120 .bf16) (r : Fin 32) : redV v (ix1 r) = amax (tileRow v r) := by
  unfold redV
  refine (Ideal.multiReduction_maximumf_single (absf (k0_pay6 (F := Ideal) v)) 0xFF80#16 reduces_S32x5120_S32 _ _ (ix1 r)).trans ?_
  rw [bot_bf16]
  unfold amax
  refine congrArg (fun g => (Finset.univ : Finset (Fin 5120)).fold max ⊥ g) (funext fun k => ?_)
  refine congrArg (FloatOps.absf (F := Ideal) (φ := .f32)) ?_
  refine Eq.trans (congrArg (k0_pay6 (F := Ideal) v) ?_) (pay6_apply v r k)
  funext a; match a with | ⟨0, _⟩ => rfl | ⟨1, _⟩ => rfl

/-- The same as a column, -/
def colV (v : Vec Ideal S1x32x5120 .bf16) : FVec Ideal S32x1 .bf16 := shapeCast S32x1 (redV v) shapeCasts_S32_S32x1

theorem colV_apply (v : Vec Ideal S1x32x5120 .bf16) (r : Fin 32) : colV v (ix2 r (0 : Fin 1)) = amax (tileRow v r) :=
  (shapeCast_a_a1_apply (redV v) shapeCasts_S32_S32x1 r (0 : Fin 1)).trans (redV_apply v r)

/-- and repeated along the lanes. -/
def amaxV (v : Vec Ideal S1x32x5120 .bf16) : FVec Ideal S32x128 .f32 :=
  broadcastTo S32x128 (shapeCast S32x1 (extf .f32 (colV v) bitsLt_bf16_f32) shapeCasts_S32x1_S32x1) broadcasts_S32x1_S32x128

theorem amaxV_apply (v : Vec Ideal S1x32x5120 .bf16) (r : Fin 32) (l : Fin 128) :
    amaxV v (ix2 r l) = amax (tileRow v r) := by
  unfold amaxV
  refine (broadcastTo_apply _ _ _ (ix2 r (0 : Fin 1)) (fun a => match a with | ⟨0, _⟩ => rfl | ⟨1, _⟩ => rfl)).trans ?_
  rw [shapeCast_self]
  exact (extf_at (colV v) bitsLt_bf16_f32 _).trans (colV_apply v r)

theorem pay7_apply (v : Vec Ideal S1x32x5120 .bf16) (r : Fin 32) (l : Fin 128) :
    k0_pay7 (F := Ideal) v (ix2 r l) = rowE (tileRow v r) := by
  show expo (amaxV v (ix2 r l)) = expo (amax (tileRow v r))
  rw [amaxV_apply]

theorem pay8_apply (v : Vec Ideal S1x32x5120 .bf16) (r : Fin 32) (l : Fin 128) :
    k0_pay8 (F := Ideal) v (ix2 r l) = rowS (tileRow v r) := by
  unfold k0_pay8
  refine (congrFun (shapeCast_self _ _) _).trans ?_
  show pow2 (k0_pay7 (F := Ideal) v (ix2 r l)) = pow2 (rowE (tileRow v r))
  rw [pay7_apply]

/-- The reciprocal scales, repeated along the row. -/
def invV (v : Vec Ideal S1x32x5120 .bf16) : FVec Ideal S32x5120 .bf16 :=
  broadcastTo S32x5120 (extractStridedSlice S32x1 ![0, 0] (truncf .bf16 (exp2 (subf (broadcast S32x128
    (Scalar.ofBits (F := Ideal) .f32 0x00000000#32)) (k0_pay7 (F := Ideal) v))) bitsLt_bf16_f32) slices_S32x128_o0_0_S32x1)
    broadcasts_S32x1_S32x5120

theorem invV_apply (v : Vec Ideal S1x32x5120 .bf16) (r : Fin 32) (k : Fin 5120) :
    invV v (ix2 r k) = pow2 ((Scalar.ofBits (F := Ideal) .f32 0x00000000#32 : EReal) - rowE (tileRow v r)) := by
  unfold invV
  refine (broadcastTo_apply _ _ _ (ix2 r (0 : Fin 1)) (fun a => match a with | ⟨0, _⟩ => rfl | ⟨1, _⟩ => rfl)).trans ?_
  refine (extractStridedSlice_apply _ _ _ _ (ix2 r (0 : Fin 128))
    (fun a => match a with | ⟨0, _⟩ => (Nat.zero_add _).symm | ⟨1, _⟩ => rfl)).trans ?_
  show pow2 ((Scalar.ofBits (F := Ideal) .f32 0x00000000#32 : EReal) - k0_pay7 (F := Ideal) v (ix2 r (0 : Fin 128))) = _
  rw [pay7_apply]

theorem pay9_apply (v : Vec Ideal S1x32x5120 .bf16) (r : Fin 32) (k : Fin 5120) :
    k0_pay9 (F := Ideal) v (ix2 r k) = rowC (tileRow v r) k := by
  show min (Scalar.ofBits (F := Ideal) .f32 0x43E00000#32 : EReal)
    (max (Scalar.ofBits (F := Ideal) .f32 0xC3E00000#32 : EReal)
      ((k0_pay6 (F := Ideal) v (ix2 r k) : EReal) * invV v (ix2 r k))) = _
  rw [pay6_apply, invV_apply]; rfl

theorem pay8_at (v : Vec Ideal S1x32x5120 .bf16) (x : S32x128.Idx) : k0_pay8 (F := Ideal) v x = rowS (tileRow v (x 0)) :=
  (congrArg (k0_pay8 (F := Ideal) v) (eq_ix2 x)).trans (pay8_apply v (x 0) (x 1))

theorem pay9_at (v : Vec Ideal S1x32x5120 .bf16) (x : S32x5120.Idx) :
    k0_pay9 (F := Ideal) v x = rowC (tileRow v (x 0)) (x 1) :=
  (congrArg (k0_pay9 (F := Ideal) v) (eq_ix2 x)).trans (pay9_apply v (x 0) (x 1))

theorem pay10_at (v : Vec Ideal S1x32x5120 .bf16) (x : S1x32x5120.Idx) :
    k0_pay10 (F := Ideal) (k0_pay9 (F := Ideal) v) x = rowC (tileRow v (x 1)) (x 2) := by
  refine (congrArg (k0_pay10 (F := Ideal) (k0_pay9 (F := Ideal) v)) (eq_ix3 x)).trans ?_
  unfold k0_pay10
  exact (shapeCast_ab_1ab_apply _ _ (x 0) (x 1) (x 2)).trans (pay9_apply v (x 1) (x 2))

theorem pay11_at (v : Vec Ideal S1x32x5120 .bf16) (x : S32x5120.Idx) :
    k0_pay11 (F := Ideal) (k0_pay9 (F := Ideal) v) x = rowC (tileRow v (x 0)) (x 1) := by
  unfold k0_pay11
  exact (congrFun (shapeCast_self _ _) _).trans (pay9_at v x)

/-! ## The blocks a point leaves -/

/-- Row `r` of a block of 512 rows. -/
def blockRow (x : S1x512x5120.Idx → EReal) (r : Fin 512) : Fin 5120 → EReal := fun k => x (ix3 (0 : Fin 1) r k)

/-- The codes as the scratch buffer keeps them, -/
def QC (x : S1x512x5120.Idx → EReal) : S512x5120.Idx → EReal := fun y => rowC (blockRow x (y 0)) (y 1)
/-- the scales as the scratch buffer keeps them, repeated along the lanes, -/
def QS (x : S1x512x5120.Idx → EReal) : S512x128.Idx → EReal := fun y => rowS (blockRow x (y 0))
/-- the codes as the result block holds them, -/
def OC (x : S1x512x5120.Idx → EReal) : S1x512x5120.Idx → EReal := fun y => rowC (blockRow x (y 1)) (y 2)
/-- and the scales as the result block holds them. -/
def OS (x : S1x512x5120.Idx → EReal) : S1x1x512.Idx → EReal := fun y => rowS (blockRow x (y 2))

section Quantise
variable (arg1 : Memref sig .tc .vmem S1x512x5120 .bf16) (harg1 : arg1.IsWhole) (x0 : Vec Ideal S1x512x5120 .bf16)

/-- The tile of 32 rows from row `n`, as loaded. -/
abbrev tileLd (n : Nat) (inb : ∀ a, (![0, n, 0] : Fin 3 → Nat) a + S1x32x5120.size a ≤ S1x512x5120.size a) : Vec Ideal S1x32x5120 .bf16 :=
  View.readAt (Elt Ideal) arg1.view (Rect.unit (s := S1x512x5120) ![0, n, 0] S1x32x5120.size inb).toLoadRect (harg1.unread x0)

theorem tileRow_ld (n : Nat) (inb) (r : Fin 32) (r' : Fin 512) (hr : r'.val = n + r.val) :
    tileRow (tileLd arg1 harg1 x0 n inb) r = blockRow x0 r' := by
  funext k
  unfold tileRow blockRow tileLd
  refine (harg1.readAt_unread x0 _ _).trans (congrArg x0 ?_)
  funext a
  refine Fin.ext ?_
  match a with
  | ⟨0, _⟩ => rfl
  | ⟨1, _⟩ => show n + 1 * r.val = r'.val; omega
  | ⟨2, _⟩ => show 0 + 1 * k.val = k.val; omega

theorem piece_OC (n : Nat) (inb) (x : S1x32x5120.Idx) :
    k0_pay10 (F := Ideal) (k0_pay9 (F := Ideal) (tileLd arg1 harg1 x0 n inb)) x
      = OC x0 ((Rect.unit (s := S1x512x5120) ![0, n, 0] S1x32x5120.size inb).emb x) := by
  rw [pay10_at]
  unfold OC
  have h1 : ((Rect.unit (s := S1x512x5120) ![0, n, 0] S1x32x5120.size inb).emb x 1).val = n + (x 1).val :=
    ValueKit.rect_emb_unit_val (s := S1x512x5120) ![0, n, 0] S1x32x5120.size inb x 1
  have h2 : (Rect.unit (s := S1x512x5120) ![0, n, 0] S1x32x5120.size inb).emb x 2 = x 2 :=
    Fin.ext ((ValueKit.rect_emb_unit_val (s := S1x512x5120) ![0, n, 0] S1x32x5120.size inb x 2).trans (Nat.zero_add _))
  rw [h2, tileRow_ld arg1 harg1 x0 n inb (x 1) _ h1]

/-- Where the tile from row `n` goes in a rank-two buffer. -/
theorem inb2 {n w : Nat} (inb : ∀ a, (![0, n, 0] : Fin 3 → Nat) a + S1x32x5120.size a ≤ S1x512x5120.size a) (a : Fin 2) :
    (![n, 0] : Fin 2 → Nat) a + (⟨2, ![32, w]⟩ : Shape).size a ≤ (⟨2, ![512, w]⟩ : Shape).size a :=
  match a with
  | ⟨0, _⟩ => inb 1
  | ⟨1, _⟩ => Nat.le_of_eq (Nat.zero_add w)

theorem piece_QC (n : Nat) (inb) (x : S32x5120.Idx) :
    k0_pay11 (F := Ideal) (k0_pay9 (F := Ideal) (tileLd arg1 harg1 x0 n inb)) x
      = QC x0 ((Rect.unit (s := S512x5120) ![n, 0] S32x5120.size (inb2 inb)).emb x) := by
  rw [pay11_at]
  unfold QC
  have h1 : ((Rect.unit (s := S512x5120) ![n, 0] S32x5120.size (inb2 inb)).emb x 0).val = n + (x 0).val :=
    ValueKit.rect_emb_unit_val (s := S512x5120) ![n, 0] S32x5120.size (inb2 inb) x 0
  have h2 : (Rect.unit (s := S512x5120) ![n, 0] S32x5120.size (inb2 inb)).emb x 1 = x 1 :=
    Fin.ext ((ValueKit.rect_emb_unit_val (s := S512x5120) ![n, 0] S32x5120.size (inb2 inb) x 1).trans (Nat.zero_add _))
  rw [h2, tileRow_ld arg1 harg1 x0 n inb (x 0) _ h1]

theorem piece_QS (n : Nat) (inb) (x : S32x128.Idx) :
    k0_pay8 (F := Ideal) (tileLd arg1 harg1 x0 n inb) x
      = QS x0 ((Rect.unit (s := S512x128) ![n, 0] S32x128.size (inb2 inb)).emb x) := by
  rw [pay8_at]
  unfold QS
  have h1 : ((Rect.unit (s := S512x128) ![n, 0] S32x128.size (inb2 inb)).emb x 0).val = n + (x 0).val :=
    ValueKit.rect_emb_unit_val (s := S512x128) ![n, 0] S32x128.size (inb2 inb) x 0
  rw [tileRow_ld arg1 harg1 x0 n inb (x 0) _ h1]

/-- The tile's rows are inside the block. -/
theorem inb1 {n : Nat} (hn : n + 32 ≤ 512) (a : Fin 3) :
    (![0, n, 0] : Fin 3 → Nat) a + S1x32x5120.size a ≤ S1x512x5120.size a :=
  match a with
  | ⟨0, _⟩ => Nat.le_refl 1
  | ⟨1, _⟩ => hn
  | ⟨2, _⟩ => Nat.le_refl 5120

theorem stored_OC (n : Nat) (hn : n + 32 ≤ 512) (p : S1x32x5120.Idx → EReal)
    (hp : p = k0_pay10 (F := Ideal) (k0_pay9 (F := Ideal) (tileLd arg1 harg1 x0 n (inb1 hn)))) (x : S1x32x5120.Idx) :
    p x = OC x0 ((Rect.unit (s := S1x512x5120) ![0, n, 0] S1x32x5120.size (inb1 hn)).emb x) :=
  hp ▸ piece_OC arg1 harg1 x0 n (inb1 hn) x

theorem stored_QC (n : Nat) (hn : n + 32 ≤ 512) (p : S32x5120.Idx → EReal)
    (hp : p = k0_pay11 (F := Ideal) (k0_pay9 (F := Ideal) (tileLd arg1 harg1 x0 n (inb1 hn)))) (x : S32x5120.Idx) :
    p x = QC x0 ((Rect.unit (s := S512x5120) ![n, 0] S32x5120.size (inb2 (inb1 hn))).emb x) :=
  hp ▸ piece_QC arg1 harg1 x0 n (inb1 hn) x

theorem stored_QS (n : Nat) (hn : n + 32 ≤ 512) (p : S32x128.Idx → EReal)
    (hp : p = k0_pay8 (F := Ideal) (tileLd arg1 harg1 x0 n (inb1 hn))) (x : S32x128.Idx) :
    p x = QS x0 ((Rect.unit (s := S512x128) ![n, 0] S32x128.size (inb2 (inb1 hn))).emb x) :=
  hp ▸ piece_QS arg1 harg1 x0 n (inb1 hn) x

end Quantise

/-- Where the block of 128 scales from row `n` goes. -/
theorem inb3 {n : Nat} (inb : ∀ a, (![n, 0] : Fin 2 → Nat) a + S128x128.size a ≤ S512x128.size a) (a : Fin 3) :
    (![0, 0, n] : Fin 3 → Nat) a + S1x1x128.size a ≤ S1x1x512.size a :=
  match a with
  | ⟨0, _⟩ => Nat.le_refl 1
  | ⟨1, _⟩ => Nat.le_refl 1
  | ⟨2, _⟩ => inb 0

/-- A block of 128 scales stored along the lanes, from the scratch buffer whose pieces `L` are known. -/
theorem piece_OS {arg : Memref sig .tc .vmem S512x128 .f32} (x0 : Vec Ideal S1x512x5120 .bf16)
    (L : List (View.Piece (Elt Ideal) S512x128 .f32)) (hL : ∀ p ∈ L, ∀ x : p.1.shape.Idx, p.2 x = QS x0 (p.1.emb x))
    (hcov : ∀ y : S512x128.Idx, ∃ p ∈ L, y ∈ p.1.set) (n : Nat) (inb) (x : S1x1x128.Idx) :
    k0_pay3 (F := Ideal) (arg.view.readCov L (Rect.unit (s := S512x128) ![n, 0] S128x128.size inb).toLoadRect) x
      = OS x0 ((Rect.unit (s := S1x1x512) ![0, 0, n] S1x1x128.size (inb3 inb)).emb x) := by
  refine (congrArg (k0_pay3 (F := Ideal) _) (eq_ix3 x)).trans ?_
  unfold k0_pay3
  refine (shapeCast_ab_1ab_apply _ _ (x 0) (x 1) (x 2)).trans ?_
  refine (extractStridedSlice_apply (s := S128x128) (t := S1x128) ![0, 0] _ _ (ix2 (x 1) (x 2)) (ix2 (0 : Fin 128) (x 2))
    (fun a => match a with
      | ⟨0, _⟩ => (show 0 = 0 + (x 1).val by have h : (x 1).val < 1 := (x 1).isLt; omega)
      | ⟨1, _⟩ => (Nat.zero_add _).symm)).trans ?_
  refine (transpose_ix2_apply _ _ _ _).trans ?_
  show (arg.view.read (Elt Ideal) (arg.view.writes (Elt Ideal) _ L)) ((Rect.unit (s := S512x128) ![n, 0] S128x128.size inb).toLoadRect.idx (ix2 (x 2) (0 : Fin 128))) = _
  rw [View.read_writes_apply_of_pieces _ _ (QS x0) L hL _ (hcov _)]
  unfold QS OS
  refine congrArg (fun r => rowS (blockRow x0 r)) (Fin.ext ?_)
  refine Eq.trans ?_ (ValueKit.rect_emb_unit_val _ _ (inb3 inb) _ 2).symm
  show n + 1 * (x 2).val = n + (x 2).val
  omega

end Cert.KernelIdeal.Gen

end
-- ==== Proof.Proj.lean ====
/- What the kernel's projections give at an index, over the extended reals: 512 quantised rows onto 128 columns. -/
module

public import proofs.«01_k».proof.Proof.Rows
public import proofs.«01_k».proof.Proof.Conds
public import Idealize.ShloMosaic.Lib.MatmulPlain
public import Idealize.ShloMosaic.Lib.WholeRead
public import Idealize.ShloMosaic.Lib.Pipeline.ValueKit

@[expose] public section

set_option maxRecDepth 16384

noncomputable section

namespace Cert.KernelIdeal.Gen

open Idealize.ShloMosaic hiding ix2 ix3 eq_ix2 eq_ix3
open Idealize.ShloMosaic.ValueIdx Cert.Rows

/-- The product of 512 rows of codes and 256 columns of weights. -/
def prodV (C : Vec Ideal S512x5120 .fp8e4m3) (W : Vec Ideal S5120x256 .fp8e4m3) : FVec Ideal S512x256 .f32 :=
  matmul (F := Ideal) (φ₁ := .fp8e4m3) (φ₂ := .fp8e4m3) dot_S512x5120_S5120x256_S512x256_1_0_0_1_n_n none C W (constant S512x256 .f32 0x00000000#32)

theorem prodV_apply (C : Vec Ideal S512x5120 .fp8e4m3) (W : Vec Ideal S5120x256 .fp8e4m3) (r : Fin 512) (c : Fin 256) :
    prodV C W (ix2 r c) = (Scalar.ofBits (F := Ideal) .f32 0x00000000#32 : EReal)
      + ∑ k : Fin 5120, (C (ix2 r k) : EReal) * W (ix2 k c) :=
  Ideal.matmul_plain_apply (M := 512) (K := 5120) (N := 256) (φ₁ := .fp8e4m3) (φ₂ := .fp8e4m3) none C W (constant (F := Ideal) S512x256 .f32 0x00000000#32) r c

/-- 128 of those columns from column `o`, scaled by the rows and the columns, plus the biases. -/
def projV (o : Nat) (hs : S512x256.Slices ![0, o] S512x128) (C : Vec Ideal S512x5120 .fp8e4m3) (W : Vec Ideal S5120x256 .fp8e4m3)
    (S : Vec Ideal S512x128 .f32) (s : Vec Ideal S1x128 .f32) (b : Vec Ideal S1x128 .bf16) : FVec Ideal S512x128 .bf16 :=
  truncf .bf16 (addf (mulf (mulf (extractStridedSlice S512x128 ![0, o] (prodV C W) hs) S)
    (broadcastTo S512x128 (shapeCast S1x128 s shapeCasts_S1x128_S1x128) broadcasts_S1x128_S512x128))
    (broadcastTo S512x128 (extf .f32 (shapeCast S1x128 b shapeCasts_S1x128_S1x128) bitsLt_bf16_f32) broadcasts_S1x128_S512x128))
    bitsLt_bf16_f32

theorem projV_apply (o : Nat) (hs) (C : Vec Ideal S512x5120 .fp8e4m3) (W : Vec Ideal S5120x256 .fp8e4m3)
    (S : Vec Ideal S512x128 .f32) (s : Vec Ideal S1x128 .f32) (b : Vec Ideal S1x128 .bf16) (r : Fin 512) (l : Fin 128)
    (c : Fin 256) (hc : c.val = o + l.val) :
    projV o hs C W S s b (ix2 r l) = lin (fun k => C (ix2 r k)) (fun k => W (ix2 k c)) (S (ix2 r l)) (s (ix2 (0 : Fin 1) l)) (b (ix2 (0 : Fin 1) l)) := by
  have e1 : extractStridedSlice S512x128 ![0, o] (prodV C W) hs (ix2 r l) = prodV C W (ix2 r c) :=
    extractStridedSlice_apply (s := S512x256) (t := S512x128) ![0, o] (prodV C W) hs (ix2 r l) (ix2 r c)
      (fun a => match a with | ⟨0, _⟩ => (Nat.zero_add _).symm | ⟨1, _⟩ => hc)
  have e2 : broadcastTo S512x128 (shapeCast S1x128 s shapeCasts_S1x128_S1x128) broadcasts_S1x128_S512x128 (ix2 r l) = s (ix2 (0 : Fin 1) l) :=
    (broadcastTo_1b_ab_apply _ _ r l).trans (congrFun (shapeCast_self s _) _)
  have e3 : broadcastTo S512x128 (extf (F := Ideal) .f32 (shapeCast S1x128 b shapeCasts_S1x128_S1x128) bitsLt_bf16_f32) broadcasts_S1x128_S512x128 (ix2 r l)
      = b (ix2 (0 : Fin 1) l) :=
    (broadcastTo_1b_ab_apply _ _ r l).trans (congrFun (shapeCast_self b _) _)
  have e : projV o hs C W S s b (ix2 r l)
      = ((extractStridedSlice S512x128 ![0, o] (prodV C W) hs (ix2 r l) : EReal) * S (ix2 r l)
        * broadcastTo S512x128 (shapeCast S1x128 s shapeCasts_S1x128_S1x128) broadcasts_S1x128_S512x128 (ix2 r l)
        + broadcastTo S512x128 (extf (F := Ideal) .f32 (shapeCast S1x128 b shapeCasts_S1x128_S1x128) bitsLt_bf16_f32) broadcasts_S1x128_S512x128 (ix2 r l) : EReal) := rfl
  rw [e, e1, e2, e3, prodV_apply]
  rfl

/-! ## The blocks a point leaves -/

/-- Head `h`'s lane `l` as a column of the ten-head weights, -/
def col10 (h : Fin 10) (l : Fin 128) : Fin 1280 := ⟨128 * h.val + l.val, by omega⟩
/-- and of the two-head weights. -/
def col2 (h : Fin 2) (l : Fin 128) : Fin 256 := ⟨128 * h.val + l.val, by omega⟩

/-- The block of ten heads, -/
def MQ (C : S512x5120.Idx → EReal) (S : S512x128.Idx → EReal) (w : S5120x1280.Idx → EReal) (s b : S1x1280.Idx → EReal) :
    S1x10x512x128.Idx → EReal := fun y =>
  lin (fun k => C (ix2 (y 2) k)) (fun k => w (ix2 k (col10 (y 1) (y 3)))) (S (ix2 (y 2) (y 3)))
    (s (ix2 (0 : Fin 1) (col10 (y 1) (y 3)))) (b (ix2 (0 : Fin 1) (col10 (y 1) (y 3))))
/-- and the block of two. -/
def MK (C : S512x5120.Idx → EReal) (S : S512x128.Idx → EReal) (w : S5120x256.Idx → EReal) (s b : S1x256.Idx → EReal) :
    S1x512x2x128.Idx → EReal := fun y =>
  lin (fun k => C (ix2 (y 1) k)) (fun k => w (ix2 k (col2 (y 2) (y 3)))) (S (ix2 (y 1) (y 3)))
    (s (ix2 (0 : Fin 1) (col2 (y 2) (y 3)))) (b (ix2 (0 : Fin 1) (col2 (y 2) (y 3))))

/-- A block of a rank-two buffer as loaded, at an index. -/
theorem ld2 {a b a' b' : Nat} {e : EltTy} (arg : Memref sig .tc .vmem (⟨2, ![a, b]⟩ : Shape) e) (harg : arg.IsWhole)
    (X : (⟨2, ![a, b]⟩ : Shape).Idx → Elt Ideal e) (n k : Nat) (inb) (i : Fin a') (j : Fin b') (i' : Fin a) (j' : Fin b)
    (hi : i'.val = n + i.val) (hj : j'.val = k + j.val) :
    View.readAt (Elt Ideal) arg.view (Rect.unit (s := (⟨2, ![a, b]⟩ : Shape)) ![n, k] (⟨2, ![a', b']⟩ : Shape).size inb).toLoadRect (harg.unread X) (ix2 i j)
      = X (ix2 i' j') := by
  refine (harg.readAt_unread X _ _).trans (congrArg X ?_)
  funext c
  refine Fin.ext ?_
  match c with
  | ⟨0, _⟩ => show n + 1 * i.val = i'.val; omega
  | ⟨1, _⟩ => show k + 1 * j.val = j'.val; omega

section
variable (argc : Memref sig .tc .vmem S512x5120 .fp8e4m3) (hargc : argc.IsWhole) (xc : Vec Ideal S512x5120 .fp8e4m3)
variable (args : Memref sig .tc .vmem S512x128 .f32) (hargs : args.IsWhole) (xs : Vec Ideal S512x128 .f32)

section Q
variable (arg2 : Memref sig .tc .vmem S5120x1280 .fp8e4m3) (harg2 : arg2.IsWhole) (x1 : Vec Ideal S5120x1280 .fp8e4m3)
variable (arg5 : Memref sig .tc .vmem S1x1280 .f32) (harg5 : arg5.IsWhole) (x4 : Vec Ideal S1x1280 .f32)
variable (arg8 : Memref sig .tc .vmem S1x1280 .bf16) (harg8 : arg8.IsWhole) (x7 : Vec Ideal S1x1280 .bf16)

theorem proj_q (o wn h : Nat) (hs) (i1 i2 i3 i4 i5) (hn : 128 * h = wn + o) (hh : h < 10) (r : Fin 512) (l : Fin 128) :
    projV o hs (View.readAt (Elt Ideal) argc.view (Rect.unit (s := S512x5120) ![0, 0] S512x5120.size i1).toLoadRect (hargc.unread xc))
      (View.readAt (Elt Ideal) arg2.view (Rect.unit (s := S5120x1280) ![0, wn] S5120x256.size i2).toLoadRect (harg2.unread x1))
      (View.readAt (Elt Ideal) args.view (Rect.unit (s := S512x128) ![0, 0] S512x128.size i3).toLoadRect (hargs.unread xs))
      (View.readAt (Elt Ideal) arg5.view (Rect.unit (s := S1x1280) ![0, 128 * h] S1x128.size i4).toLoadRect (harg5.unread x4))
      (View.readAt (Elt Ideal) arg8.view (Rect.unit (s := S1x1280) ![0, 128 * h] S1x128.size i5).toLoadRect (harg8.unread x7)) (ix2 r l)
      = lin (fun k => xc (ix2 r k)) (fun k => x1 (ix2 k (col10 ⟨h, hh⟩ l))) (xs (ix2 r l))
        (x4 (ix2 (0 : Fin 1) (col10 ⟨h, hh⟩ l))) (x7 (ix2 (0 : Fin 1) (col10 ⟨h, hh⟩ l))) := by
  have hol : o + l.val < 256 := by have := hs.2 1; have h2 : o + 128 ≤ 256 := this; omega
  rw [projV_apply o hs _ _ _ _ _ r l ⟨o + l.val, hol⟩ rfl,
    ld2 args hargs xs 0 0 i3 r l r l (Nat.zero_add _).symm (Nat.zero_add _).symm,
    ld2 arg5 harg5 x4 0 _ i4 (0 : Fin 1) l (0 : Fin 1) (col10 ⟨h, hh⟩ l) rfl rfl,
    ld2 arg8 harg8 x7 0 _ i5 (0 : Fin 1) l (0 : Fin 1) (col10 ⟨h, hh⟩ l) rfl rfl]
  congr 1
  · funext k
    exact ld2 argc hargc xc 0 0 i1 r k r k (Nat.zero_add _).symm (Nat.zero_add _).symm
  · funext k
    exact ld2 arg2 harg2 x1 0 wn i2 k _ k (col10 ⟨h, hh⟩ l) (Nat.zero_add _).symm (by show 128 * h + l.val = wn + (o + l.val); omega)

/-- Where head `h` goes in the ten-head block. -/
theorem inb4 {h : Nat} (hh : h < 10) (a : Fin 4) :
    (![0, h, 0, 0] : Fin 4 → Nat) a + S1x1x512x128.size a ≤ S1x10x512x128.size a :=
  match a with
  | ⟨0, _⟩ => Nat.le_refl 1
  | ⟨1, _⟩ => hh
  | ⟨2, _⟩ => Nat.le_refl 512
  | ⟨3, _⟩ => Nat.le_refl 128

theorem piece_q (o wn sn h : Nat) (hs) (i1 i2 i3 i4 i5) (hn : 128 * h = wn + o) (hsn : sn = 128 * h) (hh : h < 10) (x : S1x1x512x128.Idx) :
    shapeCast S1x1x512x128 (projV o hs (View.readAt (Elt Ideal) argc.view (Rect.unit (s := S512x5120) ![0, 0] S512x5120.size i1).toLoadRect (hargc.unread xc))
      (View.readAt (Elt Ideal) arg2.view (Rect.unit (s := S5120x1280) ![0, wn] S5120x256.size i2).toLoadRect (harg2.unread x1))
      (View.readAt (Elt Ideal) args.view (Rect.unit (s := S512x128) ![0, 0] S512x128.size i3).toLoadRect (hargs.unread xs))
      (View.readAt (Elt Ideal) arg5.view (Rect.unit (s := S1x1280) ![0, sn] S1x128.size i4).toLoadRect (harg5.unread x4))
      (View.readAt (Elt Ideal) arg8.view (Rect.unit (s := S1x1280) ![0, sn] S1x128.size i5).toLoadRect (harg8.unread x7)))
      shapeCasts_S512x128_S1x1x512x128 x
      = MQ xc xs x1 x4 x7 ((Rect.unit (s := S1x10x512x128) ![0, h, 0, 0] S1x1x512x128.size (inb4 hh)).emb x) := by
  subst hsn
  have h0 : (x 0).val < 1 := (x 0).isLt
  have h1 : (x 1).val < 1 := (x 1).isLt
  obtain ⟨r, hr⟩ : ∃ r : Fin 512, r = x 2 := ⟨_, rfl⟩
  obtain ⟨l, hl⟩ : ∃ l : Fin 128, l = x 3 := ⟨_, rfl⟩
  refine (shapeCast_apply _ _ x (ix2 r l) ?_).trans ?_
  · rw [Shape.rowMajor_val_two, Shape.rowMajor_val_four]
    subst hr hl
    show (x 2).val * 128 + (x 3).val = (((x 0).val * 1 + (x 1).val) * 512 + (x 2).val) * 128 + (x 3).val
    omega
  rw [proj_q argc hargc xc args hargs xs arg2 harg2 x1 arg5 harg5 x4 arg8 harg8 x7 o wn h hs i1 i2 i3 i4 i5 hn hh]
  unfold MQ
  have e1 : (Rect.unit (s := S1x10x512x128) ![0, h, 0, 0] S1x1x512x128.size (inb4 hh)).emb x 1 = (⟨h, hh⟩ : Fin 10) :=
    Fin.ext ((ValueKit.rect_emb_unit_val (s := S1x10x512x128) ![0, h, 0, 0] S1x1x512x128.size (inb4 hh) x 1).trans (by show h + (x 1).val = h; omega))
  have e2 : (Rect.unit (s := S1x10x512x128) ![0, h, 0, 0] S1x1x512x128.size (inb4 hh)).emb x 2 = r :=
    Fin.ext ((ValueKit.rect_emb_unit_val (s := S1x10x512x128) ![0, h, 0, 0] S1x1x512x128.size (inb4 hh) x 2).trans ((Nat.zero_add _).trans (congrArg Fin.val hr.symm)))
  have e3 : (Rect.unit (s := S1x10x512x128) ![0, h, 0, 0] S1x1x512x128.size (inb4 hh)).emb x 3 = l :=
    Fin.ext ((ValueKit.rect_emb_unit_val (s := S1x10x512x128) ![0, h, 0, 0] S1x1x512x128.size (inb4 hh) x 3).trans ((Nat.zero_add _).trans (congrArg Fin.val hl.symm)))
  rw [e1, e2, e3]

/-- The half of the product a head takes. -/
theorem half (h : Nat) : S512x256.Slices ![0, 128 * (h % 2)] S512x128 :=
  ⟨rfl, fun a => match a with
    | ⟨0, _⟩ => Nat.le_refl 512
    | ⟨1, _⟩ => (by show 128 * (h % 2) + 128 ≤ 256; omega)⟩

/-- Where a head's columns are, in a row, -/
theorem inbRow {h : Nat} (hh : h < 10) (a : Fin 2) : (![0, 128 * h] : Fin 2 → Nat) a + S1x128.size a ≤ S1x1280.size a :=
  match a with
  | ⟨0, _⟩ => Nat.le_refl 1
  | ⟨1, _⟩ => (by show 128 * h + 128 ≤ 1280; omega)
/-- and in the weights, with the other head of its pair. -/
theorem inbPair {h : Nat} (hh : h < 10) (a : Fin 2) : (![0, 256 * (h / 2)] : Fin 2 → Nat) a + S5120x256.size a ≤ S5120x1280.size a :=
  match a with
  | ⟨0, _⟩ => Nat.le_refl 5120
  | ⟨1, _⟩ => (by show 256 * (h / 2) + 256 ≤ 1280; omega)

theorem stored_q (i1 i3) (h : Nat) (hh : h < 10) (p : S1x1x512x128.Idx → EReal)
    (hp : p = shapeCast S1x1x512x128 (projV (128 * (h % 2)) (half h)
      (View.readAt (Elt Ideal) argc.view (Rect.unit (s := S512x5120) ![0, 0] S512x5120.size i1).toLoadRect (hargc.unread xc))
      (View.readAt (Elt Ideal) arg2.view (Rect.unit (s := S5120x1280) ![0, 256 * (h / 2)] S5120x256.size (inbPair hh)).toLoadRect (harg2.unread x1))
      (View.readAt (Elt Ideal) args.view (Rect.unit (s := S512x128) ![0, 0] S512x128.size i3).toLoadRect (hargs.unread xs))
      (View.readAt (Elt Ideal) arg5.view (Rect.unit (s := S1x1280) ![0, 128 * h] S1x128.size (inbRow hh)).toLoadRect (harg5.unread x4))
      (View.readAt (Elt Ideal) arg8.view (Rect.unit (s := S1x1280) ![0, 128 * h] S1x128.size (inbRow hh)).toLoadRect (harg8.unread x7)))
      shapeCasts_S512x128_S1x1x512x128) (x : S1x1x512x128.Idx) :
    p x = MQ xc xs x1 x4 x7 ((Rect.unit (s := S1x10x512x128) ![0, h, 0, 0] S1x1x512x128.size (inb4 hh)).emb x) :=
  hp ▸ piece_q argc hargc xc args hargs xs arg2 harg2 x1 arg5 harg5 x4 arg8 harg8 x7 (128 * (h % 2)) (256 * (h / 2)) (128 * h) h
    (half h) i1 (inbPair hh) i3 (inbRow hh) (inbRow hh) (by omega) rfl hh x

end Q

section K
variable (arg3 : Memref sig .tc .vmem S5120x256 .fp8e4m3) (harg3 : arg3.IsWhole) (x2 : Vec Ideal S5120x256 .fp8e4m3)
variable (arg6 : Memref sig .tc .vmem S1x256 .f32) (harg6 : arg6.IsWhole) (x5 : Vec Ideal S1x256 .f32)
variable (arg9 : Memref sig .tc .vmem S1x256 .bf16) (harg9 : arg9.IsWhole) (x8 : Vec Ideal S1x256 .bf16)

/-- One head of a two-head block, from the loads. -/
abbrev headK (o : Nat) (hs : S512x256.Slices ![0, o] S512x128)
    (i1 : ∀ a, (![0, 0] : Fin 2 → Nat) a + S512x5120.size a ≤ S512x5120.size a)
    (i2 : ∀ a, (![0, 0] : Fin 2 → Nat) a + S5120x256.size a ≤ S5120x256.size a)
    (i3 : ∀ a, (![0, 0] : Fin 2 → Nat) a + S512x128.size a ≤ S512x128.size a)
    (i4 : ∀ a, (![0, o] : Fin 2 → Nat) a + S1x128.size a ≤ S1x256.size a)
    (i5 : ∀ a, (![0, o] : Fin 2 → Nat) a + S1x128.size a ≤ S1x256.size a) : FVec Ideal S512x128 .bf16 :=
  projV o hs (View.readAt (Elt Ideal) argc.view (Rect.unit (s := S512x5120) ![0, 0] S512x5120.size i1).toLoadRect (hargc.unread xc))
      (View.readAt (Elt Ideal) arg3.view (Rect.unit (s := S5120x256) ![0, 0] S5120x256.size i2).toLoadRect (harg3.unread x2))
      (View.readAt (Elt Ideal) args.view (Rect.unit (s := S512x128) ![0, 0] S512x128.size i3).toLoadRect (hargs.unread xs))
      (View.readAt (Elt Ideal) arg6.view (Rect.unit (s := S1x256) ![0, o] S1x128.size i4).toLoadRect (harg6.unread x5))
      (View.readAt (Elt Ideal) arg9.view (Rect.unit (s := S1x256) ![0, o] S1x128.size i5).toLoadRect (harg9.unread x8))

theorem proj_k (h : Fin 2) (o : Nat) (ho : o = 128 * h.val) (hs) (i1 i2 i3 i4 i5) (r : Fin 512) (l : Fin 128) :
    headK argc hargc xc args hargs xs arg3 harg3 x2 arg6 harg6 x5 arg9 harg9 x8 o hs i1 i2 i3 i4 i5 (ix2 r l)
      = lin (fun k => xc (ix2 r k)) (fun k => x2 (ix2 k (col2 h l))) (xs (ix2 r l))
        (x5 (ix2 (0 : Fin 1) (col2 h l))) (x8 (ix2 (0 : Fin 1) (col2 h l))) := by
  subst ho
  unfold headK
  rw [projV_apply _ hs _ _ _ _ _ r l (col2 h l) rfl,
    ld2 args hargs xs 0 0 i3 r l r l (Nat.zero_add _).symm (Nat.zero_add _).symm,
    ld2 arg6 harg6 x5 0 _ i4 (0 : Fin 1) l (0 : Fin 1) (col2 h l) rfl rfl,
    ld2 arg9 harg9 x8 0 _ i5 (0 : Fin 1) l (0 : Fin 1) (col2 h l) rfl rfl]
  congr 1
  · funext k
    exact ld2 argc hargc xc 0 0 i1 r k r k (Nat.zero_add _).symm (Nat.zero_add _).symm
  · funext k
    exact ld2 arg3 harg3 x2 0 0 i2 k _ k (col2 h l) (Nat.zero_add _).symm (Nat.zero_add _).symm

/-- The whole two-head block. -/
theorem inb4w (a : Fin 4) : (![0, 0, 0, 0] : Fin 4 → Nat) a + S1x512x2x128.size a ≤ S1x512x2x128.size a :=
  match a with
  | ⟨0, _⟩ => Nat.le_refl 1
  | ⟨1, _⟩ => Nat.le_refl 512
  | ⟨2, _⟩ => Nat.le_refl 2
  | ⟨3, _⟩ => Nat.le_refl 128

theorem piece_k (hs hs') (i1 i2 i3 i4 i5 j1 j2 j3 j4 j5) (x : S1x512x2x128.Idx) :
    interleaveRows S1x512x2x128
      (shapeCast S1x512x1x128 (headK argc hargc xc args hargs xs arg3 harg3 x2 arg6 harg6 x5 arg9 harg9 x8 0 hs i1 i2 i3 i4 i5) shapeCasts_S512x128_S1x512x1x128)
      (shapeCast S1x512x1x128 (headK argc hargc xc args hargs xs arg3 harg3 x2 arg6 harg6 x5 arg9 harg9 x8 128 hs' j1 j2 j3 j4 j5) shapeCasts_S512x128_S1x512x1x128)
      bitcasts_S1x512x2x128_w16_S1x512x1x128_w32 x
      = MK xc xs x2 x5 x8 ((Rect.unit (s := S1x512x2x128) ![0, 0, 0, 0] S1x512x2x128.size inb4w).emb x) := by
  have e1 : (Rect.unit (s := S1x512x2x128) ![0, 0, 0, 0] S1x512x2x128.size inb4w).emb x = x := by
    funext a
    refine Fin.ext ((ValueKit.rect_emb_unit_val (s := S1x512x2x128) ![0, 0, 0, 0] S1x512x2x128.size inb4w x a).trans ?_)
    match a with
    | ⟨0, _⟩ => exact Nat.zero_add _
    | ⟨1, _⟩ => exact Nat.zero_add _
    | ⟨2, _⟩ => exact Nat.zero_add _
    | ⟨3, _⟩ => exact Nat.zero_add _
  rw [e1]
  have h0 : (x 0).val < 1 := (x 0).isLt
  have h2 : (x 2).val < 2 := (x 2).isLt
  obtain ⟨r, hr⟩ : ∃ r : Fin 512, r = x 1 := ⟨_, rfl⟩
  obtain ⟨l, hl⟩ : ∃ l : Fin 128, l = x 3 := ⟨_, rfl⟩
  have cast (v : FVec Ideal S512x128 .bf16) (j : S1x512x1x128.Idx) (hj1 : (j 1).val = (x 1).val) (hj3 : (j 3).val = (x 3).val) :
      shapeCast S1x512x1x128 v shapeCasts_S512x128_S1x512x1x128 j = v (ix2 r l) := by
    refine shapeCast_apply _ _ j (ix2 r l) ?_
    have k0 : (j 0).val < 1 := (j 0).isLt
    have k2 : (j 2).val < 1 := (j 2).isLt
    rw [Shape.rowMajor_val_two, Shape.rowMajor_val_four]
    subst hr hl
    show (x 1).val * 128 + (x 3).val = (((j 0).val * 512 + (j 1).val) * 1 + (j 2).val) * 128 + (j 3).val
    omega
  unfold interleaveRows
  dsimp only
  have hrow : S1x512x2x128.row x = (x 2).val := rfl
  rw [hrow]
  unfold MK
  rw [← hr, ← hl]
  by_cases hx : (x 2).val = 0
  · have e2 : x 2 = (0 : Fin 2) := Fin.ext hx
    rw [if_pos (by omega), cast _ _ rfl rfl, proj_k argc hargc xc args hargs xs arg3 harg3 x2 arg6 harg6 x5 arg9 harg9 x8 0 0 rfl, e2]
  · have e2 : x 2 = (1 : Fin 2) := Fin.ext (by show (x 2).val = 1; omega)
    rw [if_neg (by omega), cast _ _ rfl rfl, proj_k argc hargc xc args hargs xs arg3 harg3 x2 arg6 harg6 x5 arg9 harg9 x8 1 128 rfl, e2]

theorem stored_k (hs hs') (i1 i2 i3 i4 i5 j1 j2 j3 j4 j5) (p : S1x512x2x128.Idx → EReal)
    (hp : p = interleaveRows S1x512x2x128
      (shapeCast S1x512x1x128 (headK argc hargc xc args hargs xs arg3 harg3 x2 arg6 harg6 x5 arg9 harg9 x8 0 hs i1 i2 i3 i4 i5) shapeCasts_S512x128_S1x512x1x128)
      (shapeCast S1x512x1x128 (headK argc hargc xc args hargs xs arg3 harg3 x2 arg6 harg6 x5 arg9 harg9 x8 128 hs' j1 j2 j3 j4 j5) shapeCasts_S512x128_S1x512x1x128)
      bitcasts_S1x512x2x128_w16_S1x512x1x128_w32) (x : S1x512x2x128.Idx) :
    p x = MK xc xs x2 x5 x8 ((Rect.unit (s := S1x512x2x128) ![0, 0, 0, 0] S1x512x2x128.size inb4w).emb x) :=
  hp ▸ piece_k argc hargc xc args hargs xs arg3 harg3 x2 arg6 harg6 x5 arg9 harg9 x8 hs hs' i1 i2 i3 i4 i5 j1 j2 j3 j4 j5 x

end K
end

end Cert.KernelIdeal.Gen

end
-- ==== Proof.ReadA.lean ====
/- What the kernel body leaves in each buffer at the first point, over the extended reals: the pieces the run
   finds are blocks of one value, and they cover the buffer. -/
module

public import proofs.«01_k».proof.Proof.RunA
public import proofs.«01_k».proof.Proof.Tiles
public import proofs.«01_k».proof.Proof.Proj

@[expose] public section

set_option maxRecDepth 16384

noncomputable section

namespace Cert.KernelIdeal.Gen

open Idealize.ShloMosaic hiding ix1 ix2 ix3 eq_ix2 eq_ix3
open Idealize.ShloMosaic.TcCoe Idealize.ShloMosaic.Tactic
open Idealize.ShloMosaic.ValueIdx Cert.Rows

variable (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : cond0_0 i) (hc1 : ¬cond0_1 i) (hc2 : ¬cond0_2 i)
      (x0 : Vec Ideal S1x512x5120 .bf16) (x1 : Vec Ideal S5120x1280 .fp8e4m3) (x2 : Vec Ideal S5120x256 .fp8e4m3) (x3 : Vec Ideal S5120x256 .fp8e4m3) (x4 : Vec Ideal S1x1280 .f32) (x5 : Vec Ideal S1x256 .f32) (x6 : Vec Ideal S1x256 .f32) (x7 : Vec Ideal S1x1280 .bf16) (x8 : Vec Ideal S1x256 .bf16) (x9 : Vec Ideal S1x256 .bf16) (xs1 : Vec Ideal S512x5120 .fp8e4m3) (xs3 : Vec Ideal S512x128 .f32)

theorem piecesA_13 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1, ∀ x : p.1.shape.Idx, p.2 x = OC x0 (p.1.emb x) := by
  dsimp only [kernelRun0_A]
  repeat' refine List.forall_mem_cons.mpr ⟨fun x => stored_OC arg1 harg1 x0 _ (by decide) _ (by exact rfl) x, ?_⟩
  exact List.forall_mem_nil _

theorem coverA_13 (y : S1x512x5120.Idx) : ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1, y ∈ p.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1 S1x32x5120.size (by sl_kernel_rfl) y
theorem readA_13 (v : View sig .tc .vmem S1x512x5120 .fp8e4m3) (f) : v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1) = OC x0 :=
  funext fun y => View.read_writes_apply_of_pieces v f (OC x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1
    (piecesA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesA_S0 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1, ∀ x : p.1.shape.Idx, p.2 x = QC x0 (p.1.emb x) := by
  dsimp only [kernelRun0_A]
  repeat' refine List.forall_mem_cons.mpr ⟨fun x => stored_QC arg1 harg1 x0 _ (by decide) _ (by exact rfl) x, ?_⟩
  exact List.forall_mem_nil _

theorem coverA_S0 (y : S512x5120.Idx) : ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1, y ∈ p.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1 S32x5120.size (by sl_kernel_rfl) y
theorem readA_S0 (v : View sig .tc .vmem S512x5120 .fp8e4m3) (f) : v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1) = QC x0 :=
  funext fun y => View.read_writes_apply_of_pieces v f (QC x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1
    (piecesA_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverA_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesA_S2 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1, ∀ x : p.1.shape.Idx, p.2 x = QS x0 (p.1.emb x) := by
  dsimp only [kernelRun0_A, kernelRun0_A.sl.HS2_16]
  repeat' refine List.forall_mem_cons.mpr ⟨fun x => stored_QS arg1 harg1 x0 _ (by decide) _ (by exact rfl) x, ?_⟩
  exact List.forall_mem_nil _

theorem coverA_S2 (y : S512x128.Idx) : ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1, y ∈ p.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1 S32x128.size (by sl_kernel_rfl) y
theorem readA_S2 (v : View sig .tc .vmem S512x128 .f32) (f) : v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1) = QS x0 :=
  funext fun y => View.read_writes_apply_of_pieces v f (QS x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1
    (piecesA_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverA_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesA_14 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1, ∀ x : p.1.shape.Idx, p.2 x = OS x0 (p.1.emb x) := by
  have hp : ∀ p ∈ kernelRun0_A.sl.HS2_16 (F := Ideal) c arg1 harg1 x0, ∀ x : p.1.shape.Idx, p.2 x = QS x0 (p.1.emb x) :=
    piecesA_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3
  have hc : ∀ y : S512x128.Idx, ∃ p ∈ kernelRun0_A.sl.HS2_16 (F := Ideal) c arg1 harg1 x0, y ∈ p.1.set :=
    coverA_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3
  dsimp only [kernelRun0_A]
  repeat' refine List.forall_mem_cons.mpr ⟨fun x => piece_OS (arg := arg18) x0 _ hp hc _ _ x, ?_⟩
  exact List.forall_mem_nil _

theorem coverA_14 (y : S1x1x512.Idx) : ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1, y ∈ p.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1 S1x1x128.size (by sl_kernel_rfl) y
theorem readA_14 (v : View sig .tc .vmem S1x1x512 .f32) (f) : v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1) = OS x0 :=
  funext fun y => View.read_writes_apply_of_pieces v f (OS x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1
    (piecesA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

end Cert.KernelIdeal.Gen

end
-- ==== Proof.RunB.lean ====
/- The kernel body's run at the odd points: the tile in the first pair of scratch buffers is projected, the next one is quantised into the second pair. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1512000 in
/-- What the body's stores leave in each output's staging memref, as pieces (last first) IN CASE B (`scf.if` 0 not taken, `scf.if` 1 not taken, `scf.if` 2 taken: points 1, 3, … 31: 16 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : ¬cond0_1 i) (hc2 : cond0_2 i)
    (x0 : Vec F S1x512x5120 .bf16) (x1 : Vec F S5120x1280 .fp8e4m3) (x2 : Vec F S5120x256 .fp8e4m3) (x3 : Vec F S5120x256 .fp8e4m3) (x4 : Vec F S1x1280 .f32) (x5 : Vec F S1x256 .f32) (x6 : Vec F S1x256 .f32) (x7 : Vec F S1x1280 .bf16) (x8 : Vec F S1x256 .bf16) (x9 : Vec F S1x256 .bf16) (xs0 : Vec F S512x5120 .fp8e4m3) (xs2 : Vec F S512x128 .f32) :
    Σ' (L10 : List (View.Piece (Elt F) S1x10x512x128 .bf16)), Σ' (L11 : List (View.Piece (Elt F) S1x512x2x128 .bf16)), Σ' (L12 : List (View.Piece (Elt F) S1x512x2x128 .bf16)), Σ' (L13 : List (View.Piece (Elt F) S1x512x5120 .fp8e4m3)), Σ' (L14 : List (View.Piece (Elt F) S1x1x512 .f32)), Σ' (LS0 : List (View.Piece (Elt F) S512x5120 .fp8e4m3)), Σ' (LS1 : List (View.Piece (Elt F) S512x5120 .fp8e4m3)), Σ' (LS2 : List (View.Piece (Elt F) S512x128 .f32)), { LS3 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ owns (c : Thread nD τ) arg18 fullShare xs2 ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0 ∗ (∃ f, arg17.view.loc (c : Thread nD τ) ↦[arg17.view.set]{fullShare} arg17.view.writes (Elt F) f LS1) ∗ owns (c : Thread nD τ) arg18 fullShare xs2 ∗ (∃ f, arg19.view.loc (c : Thread nD τ) ↦[arg19.view.set]{fullShare} arg19.view.writes (Elt F) f LS3)) -∗ K ⟨⟩))
          ⊢ wp frame (wpE (defs₀ (F := F)) Variants.none c none) E (cc0_qkv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, [], ?_, [], ?_, fun E K => ?run⟩
  case run =>
    simp only [cc0_qkv_fp8_eq_skeleton]; unfold cc0_qkv_fp8_skel
    simp only [k0_part73_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs0; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact harg16.read_unread _
      iexact HS0
    isplitl [HS1]; · iexists _; iexact HS1
    isplitl [HS2]
    · iexists _; isplitr; · ipureintro; exact harg18.read_unread _
      iexact HS2
    iexists _; iexact HS3

end Cert.KernelIdeal.Gen

end
-- ==== Proof.ReadB.lean ====
/- What the kernel body leaves in each buffer at the odd points, over the extended reals: the pieces the run
   finds are blocks of one value, and they cover the buffer. -/
module

public import proofs.«01_k».proof.Proof.RunB
public import proofs.«01_k».proof.Proof.Tiles
public import proofs.«01_k».proof.Proof.Proj

@[expose] public section

set_option maxRecDepth 16384

noncomputable section

namespace Cert.KernelIdeal.Gen

open Idealize.ShloMosaic hiding ix1 ix2 ix3 eq_ix2 eq_ix3
open Idealize.ShloMosaic.TcCoe Idealize.ShloMosaic.Tactic
open Idealize.ShloMosaic.ValueIdx Cert.Rows

variable (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : ¬cond0_1 i) (hc2 : cond0_2 i)
      (x0 : Vec Ideal S1x512x5120 .bf16) (x1 : Vec Ideal S5120x1280 .fp8e4m3) (x2 : Vec Ideal S5120x256 .fp8e4m3) (x3 : Vec Ideal S5120x256 .fp8e4m3) (x4 : Vec Ideal S1x1280 .f32) (x5 : Vec Ideal S1x256 .f32) (x6 : Vec Ideal S1x256 .f32) (x7 : Vec Ideal S1x1280 .bf16) (x8 : Vec Ideal S1x256 .bf16) (x9 : Vec Ideal S1x256 .bf16) (xs0 : Vec Ideal S512x5120 .fp8e4m3) (xs2 : Vec Ideal S512x128 .f32)

theorem piecesB_13 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.1, ∀ x : p.1.shape.Idx, p.2 x = OC x0 (p.1.emb x) := by
  dsimp only [kernelRun0_B]
  repeat' refine List.forall_mem_cons.mpr ⟨fun x => stored_OC arg1 harg1 x0 _ (by decide) _ (by exact rfl) x, ?_⟩
  exact List.forall_mem_nil _

theorem coverB_13 (y : S1x512x5120.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.1 S1x32x5120.size (by sl_kernel_rfl) y
theorem readB_13 (v : View sig .tc .vmem S1x512x5120 .fp8e4m3) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.1) = OC x0 :=
  funext fun y => View.read_writes_apply_of_pieces v f (OC x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.1
    (piecesB_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

theorem piecesB_S1 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.1, ∀ x : p.1.shape.Idx, p.2 x = QC x0 (p.1.emb x) := by
  dsimp only [kernelRun0_B]
  repeat' refine List.forall_mem_cons.mpr ⟨fun x => stored_QC arg1 harg1 x0 _ (by decide) _ (by exact rfl) x, ?_⟩
  exact List.forall_mem_nil _

theorem coverB_S1 (y : S512x5120.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.1 S32x5120.size (by sl_kernel_rfl) y
theorem readB_S1 (v : View sig .tc .vmem S512x5120 .fp8e4m3) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.1) = QC x0 :=
  funext fun y => View.read_writes_apply_of_pieces v f (QC x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.1
    (piecesB_S1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_S1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

theorem piecesB_S3 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.2.2.1, ∀ x : p.1.shape.Idx, p.2 x = QS x0 (p.1.emb x) := by
  dsimp only [kernelRun0_B, kernelRun0_B.sl.HS3_16]
  repeat' refine List.forall_mem_cons.mpr ⟨fun x => stored_QS arg1 harg1 x0 _ (by decide) _ (by exact rfl) x, ?_⟩
  exact List.forall_mem_nil _

theorem coverB_S3 (y : S512x128.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.2.2.1 S32x128.size (by sl_kernel_rfl) y
theorem readB_S3 (v : View sig .tc .vmem S512x128 .f32) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.2.2.1) = QS x0 :=
  funext fun y => View.read_writes_apply_of_pieces v f (QS x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.2.2.2.2.1
    (piecesB_S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

theorem piecesB_14 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.1, ∀ x : p.1.shape.Idx, p.2 x = OS x0 (p.1.emb x) := by
  have hp : ∀ p ∈ kernelRun0_B.sl.HS3_16 (F := Ideal) c arg1 harg1 x0, ∀ x : p.1.shape.Idx, p.2 x = QS x0 (p.1.emb x) :=
    piecesB_S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2
  have hc : ∀ y : S512x128.Idx, ∃ p ∈ kernelRun0_B.sl.HS3_16 (F := Ideal) c arg1 harg1 x0, y ∈ p.1.set :=
    coverB_S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2
  dsimp only [kernelRun0_B]
  repeat' refine List.forall_mem_cons.mpr ⟨fun x => piece_OS (arg := arg19) x0 _ hp hc _ _ x, ?_⟩
  exact List.forall_mem_nil _

theorem coverB_14 (y : S1x1x512.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.1 S1x1x128.size (by sl_kernel_rfl) y
theorem readB_14 (v : View sig .tc .vmem S1x1x512 .f32) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.1) = OS x0 :=
  funext fun y => View.read_writes_apply_of_pieces v f (OS x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.2.2.1
    (piecesB_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

set_option maxHeartbeats 1600000 in
theorem piecesB_10 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).1, ∀ x : p.1.shape.Idx, p.2 x = MQ xs0 xs2 x1 x4 x7 (p.1.emb x) := by
  dsimp only [kernelRun0_B]
  repeat' first
    | exact List.forall_mem_nil _
    | refine List.forall_mem_cons.mpr ⟨fun x => stored_q arg16 harg16 xs0 arg18 harg18 xs2 arg2 harg2 x1 arg5 harg5 x4 arg8 harg8 x7 (by decide) (by decide) _ (by decide) _ (by exact rfl) x, ?_⟩

theorem coverB_10 (y : S1x10x512x128.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).1 S1x1x512x128.size (by sl_kernel_rfl) y
theorem readB_10 (v : View sig .tc .vmem S1x10x512x128 .bf16) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).1) = MQ xs0 xs2 x1 x4 x7 :=
  funext fun y => View.read_writes_apply_of_pieces v f (MQ xs0 xs2 x1 x4 x7) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).1
    (piecesB_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

theorem piecesB_11 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.1, ∀ x : p.1.shape.Idx, p.2 x = MK xs0 xs2 x2 x5 x8 (p.1.emb x) := by
  dsimp only [kernelRun0_B]
  refine List.forall_mem_cons.mpr ⟨fun x => stored_k arg16 harg16 xs0 arg18 harg18 xs2 arg3 harg3 x2 arg6 harg6 x5 arg9 harg9 x8
    slices_S512x256_o0_0_S512x128 slices_S512x256_o0_128_S512x128 (by decide) (by decide) (by decide) (by decide) (by decide)
    (by decide) (by decide) (by decide) (by decide) (by decide) _ (by exact rfl) x, List.forall_mem_nil _⟩

theorem coverB_11 (y : S1x512x2x128.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.1 S1x512x2x128.size (by sl_kernel_rfl) y
theorem readB_11 (v : View sig .tc .vmem S1x512x2x128 .bf16) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.1) = MK xs0 xs2 x2 x5 x8 :=
  funext fun y => View.read_writes_apply_of_pieces v f (MK xs0 xs2 x2 x5 x8) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.1
    (piecesB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

theorem piecesB_12 : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.1, ∀ x : p.1.shape.Idx, p.2 x = MK xs0 xs2 x3 x6 x9 (p.1.emb x) := by
  dsimp only [kernelRun0_B]
  refine List.forall_mem_cons.mpr ⟨fun x => stored_k arg16 harg16 xs0 arg18 harg18 xs2 arg4 harg4 x3 arg7 harg7 x6 arg10 harg10 x9
    slices_S512x256_o0_0_S512x128 slices_S512x256_o0_128_S512x128 (by decide) (by decide) (by decide) (by decide) (by decide)
    (by decide) (by decide) (by decide) (by decide) (by decide) _ (by exact rfl) x, List.forall_mem_nil _⟩

theorem coverB_12 (y : S1x512x2x128.Idx) : ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.1 S1x512x2x128.size (by sl_kernel_rfl) y
theorem readB_12 (v : View sig .tc .vmem S1x512x2x128 .bf16) (f) : v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.1) = MK xs0 xs2 x3 x6 x9 :=
  funext fun y => View.read_writes_apply_of_pieces v f (MK xs0 xs2 x3 x6 x9) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2).2.2.1
    (piecesB_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2) y (coverB_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs2 y)

end Cert.KernelIdeal.Gen

end
-- ==== Proof.RunC.lean ====
/- The kernel body's run at the even points after the first: the tile in the second pair is projected, the next one is quantised into the first pair. -/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1512000 in
/-- What the body's stores leave in each output's staging memref, as pieces (last first) IN CASE C (`scf.if` 0 not taken, `scf.if` 1 taken, `scf.if` 2 not taken: points 2, 4, … 32: 16 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : ¬cond0_2 i)
    (x0 : Vec F S1x512x5120 .bf16) (x1 : Vec F S5120x1280 .fp8e4m3) (x2 : Vec F S5120x256 .fp8e4m3) (x3 : Vec F S5120x256 .fp8e4m3) (x4 : Vec F S1x1280 .f32) (x5 : Vec F S1x256 .f32) (x6 : Vec F S1x256 .f32) (x7 : Vec F S1x1280 .bf16) (x8 : Vec F S1x256 .bf16) (x9 : Vec F S1x256 .bf16) (xs1 : Vec F S512x5120 .fp8e4m3) (xs3 : Vec F S512x128 .f32) :
    Σ' (L10 : List (View.Piece (Elt F) S1x10x512x128 .bf16)), Σ' (L11 : List (View.Piece (Elt F) S1x512x2x128 .bf16)), Σ' (L12 : List (View.Piece (Elt F) S1x512x2x128 .bf16)), Σ' (L13 : List (View.Piece (Elt F) S1x512x5120 .fp8e4m3)), Σ' (L14 : List (View.Piece (Elt F) S1x1x512 .f32)), Σ' (LS0 : List (View.Piece (Elt F) S512x5120 .fp8e4m3)), Σ' (LS1 : List (View.Piece (Elt F) S512x5120 .fp8e4m3)), Σ' (LS2 : List (View.Piece (Elt F) S512x128 .f32)), { LS3 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs1 ∗ (∃ d, owns (c : Thread nD τ) arg18 fullShare d) ∗ owns (c : Thread nD τ) arg19 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ owns (c : Thread nD τ) arg17 fullShare xs1 ∗ (∃ f, arg18.view.loc (c : Thread nD τ) ↦[arg18.view.set]{fullShare} arg18.view.writes (Elt F) f LS2) ∗ owns (c : Thread nD τ) arg19 fullShare xs3) -∗ K ⟨⟩))
          ⊢ wp frame (wpE (defs₀ (F := F)) Variants.none c none) E (cc0_qkv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, [], ?_, [], fun E K => ?run⟩
  case run =>
    simp only [cc0_qkv_fp8_eq_skeleton]; unfold cc0_qkv_fp8_skel
    simp only [k0_part46_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg17.eq_unread hfs1; obtain rfl := harg19.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]
    · iexists _; isplitr; · ipureintro; exact harg17.read_unread _
      iexact HS1
    isplitl [HS2]; · iexists _; iexact HS2
    iexists _; isplitr; · ipureintro; exact harg19.read_unread _
    iexact HS3

end Cert.KernelIdeal.Gen

end
-- ==== Proof.ReadC.lean ====
/- What the kernel body leaves in each buffer at the even points after the first, over the extended reals: the pieces the run
   finds are blocks of one value, and they cover the buffer. -/
module

public import proofs.«01_k».proof.Proof.RunC
public import proofs.«01_k».proof.Proof.Tiles
public import proofs.«01_k».proof.Proof.Proj

@[expose] public section

set_option maxRecDepth 16384

noncomputable section

namespace Cert.KernelIdeal.Gen

open Idealize.ShloMosaic hiding ix1 ix2 ix3 eq_ix2 eq_ix3
open Idealize.ShloMosaic.TcCoe Idealize.ShloMosaic.Tactic
open Idealize.ShloMosaic.ValueIdx Cert.Rows

variable (c : Dev nD) (i : grid0.Coords) (arg1 : Memref sig .tc .vmem S1x512x5120 .bf16) (harg1 : arg1.IsWhole) (arg2 : Memref sig .tc .vmem S5120x1280 .fp8e4m3) (harg2 : arg2.IsWhole) (arg3 : Memref sig .tc .vmem S5120x256 .fp8e4m3) (harg3 : arg3.IsWhole) (arg4 : Memref sig .tc .vmem S5120x256 .fp8e4m3) (harg4 : arg4.IsWhole) (arg5 : Memref sig .tc .vmem S1x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1280 .bf16) (harg8 : arg8.IsWhole) (arg9 : Memref sig .tc .vmem S1x256 .bf16) (harg9 : arg9.IsWhole) (arg10 : Memref sig .tc .vmem S1x256 .bf16) (harg10 : arg10.IsWhole) (arg11 : Memref sig .tc .vmem S1x10x512x128 .bf16) (harg11 : arg11.IsWhole) (arg12 : Memref sig .tc .vmem S1x512x2x128 .bf16) (harg12 : arg12.IsWhole) (arg13 : Memref sig .tc .vmem S1x512x2x128 .bf16) (harg13 : arg13.IsWhole) (arg14 : Memref sig .tc .vmem S1x512x5120 .fp8e4m3) (harg14 : arg14.IsWhole) (arg15 : Memref sig .tc .vmem S1x1x512 .f32) (harg15 : arg15.IsWhole) (arg16 : Memref sig .tc .vmem S512x5120 .fp8e4m3) (harg16 : arg16.IsWhole) (arg17 : Memref sig .tc .vmem S512x5120 .fp8e4m3) (harg17 : arg17.IsWhole) (arg18 : Memref sig .tc .vmem S512x128 .f32) (harg18 : arg18.IsWhole) (arg19 : Memref sig .tc .vmem S512x128 .f32) (harg19 : arg19.IsWhole) (hc0 : ¬cond0_0 i) (hc1 : cond0_1 i) (hc2 : ¬cond0_2 i)
      (x0 : Vec Ideal S1x512x5120 .bf16) (x1 : Vec Ideal S5120x1280 .fp8e4m3) (x2 : Vec Ideal S5120x256 .fp8e4m3) (x3 : Vec Ideal S5120x256 .fp8e4m3) (x4 : Vec Ideal S1x1280 .f32) (x5 : Vec Ideal S1x256 .f32) (x6 : Vec Ideal S1x256 .f32) (x7 : Vec Ideal S1x1280 .bf16) (x8 : Vec Ideal S1x256 .bf16) (x9 : Vec Ideal S1x256 .bf16) (xs1 : Vec Ideal S512x5120 .fp8e4m3) (xs3 : Vec Ideal S512x128 .f32)

theorem piecesC_13 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1, ∀ x : p.1.shape.Idx, p.2 x = OC x0 (p.1.emb x) := by
  dsimp only [kernelRun0_C]
  repeat' refine List.forall_mem_cons.mpr ⟨fun x => stored_OC arg1 harg1 x0 _ (by decide) _ (by exact rfl) x, ?_⟩
  exact List.forall_mem_nil _

theorem coverC_13 (y : S1x512x5120.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1 S1x32x5120.size (by sl_kernel_rfl) y
theorem readC_13 (v : View sig .tc .vmem S1x512x5120 .fp8e4m3) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1) = OC x0 :=
  funext fun y => View.read_writes_apply_of_pieces v f (OC x0) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.1
    (piecesC_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesC_S0 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1, ∀ x : p.1.shape.Idx, p.2 x = QC x0 (p.1.emb x) := by
  dsimp only [kernelRun0_C]
  repeat' refine List.forall_mem_cons.mpr ⟨fun x => stored_QC arg1 harg1 x0 _ (by decide) _ (by exact rfl) x, ?_⟩
  exact List.forall_mem_nil _

theorem coverC_S0 (y : S512x5120.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1 S32x5120.size (by sl_kernel_rfl) y
theorem readC_S0 (v : View sig .tc .vmem S512x5120 .fp8e4m3) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1) = QC x0 :=
  funext fun y => View.read_writes_apply_of_pieces v f (QC x0) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.1
    (piecesC_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesC_S2 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1, ∀ x : p.1.shape.Idx, p.2 x = QS x0 (p.1.emb x) := by
  dsimp only [kernelRun0_C, kernelRun0_C.sl.HS2_16]
  repeat' refine List.forall_mem_cons.mpr ⟨fun x => stored_QS arg1 harg1 x0 _ (by decide) _ (by exact rfl) x, ?_⟩
  exact List.forall_mem_nil _

theorem coverC_S2 (y : S512x128.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1 S32x128.size (by sl_kernel_rfl) y
theorem readC_S2 (v : View sig .tc .vmem S512x128 .f32) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1) = QS x0 :=
  funext fun y => View.read_writes_apply_of_pieces v f (QS x0) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.2.2.2.1
    (piecesC_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesC_14 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1, ∀ x : p.1.shape.Idx, p.2 x = OS x0 (p.1.emb x) := by
  have hp : ∀ p ∈ kernelRun0_C.sl.HS2_16 (F := Ideal) c arg1 harg1 x0, ∀ x : p.1.shape.Idx, p.2 x = QS x0 (p.1.emb x) :=
    piecesC_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3
  have hc : ∀ y : S512x128.Idx, ∃ p ∈ kernelRun0_C.sl.HS2_16 (F := Ideal) c arg1 harg1 x0, y ∈ p.1.set :=
    coverC_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3
  dsimp only [kernelRun0_C]
  repeat' refine List.forall_mem_cons.mpr ⟨fun x => piece_OS (arg := arg18) x0 _ hp hc _ _ x, ?_⟩
  exact List.forall_mem_nil _

theorem coverC_14 (y : S1x1x512.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1 S1x1x128.size (by sl_kernel_rfl) y
theorem readC_14 (v : View sig .tc .vmem S1x1x512 .f32) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1) = OS x0 :=
  funext fun y => View.read_writes_apply_of_pieces v f (OS x0) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.2.2.1
    (piecesC_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

set_option maxHeartbeats 1600000 in
theorem piecesC_10 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).1, ∀ x : p.1.shape.Idx, p.2 x = MQ xs1 xs3 x1 x4 x7 (p.1.emb x) := by
  dsimp only [kernelRun0_C]
  repeat' first
    | exact List.forall_mem_nil _
    | refine List.forall_mem_cons.mpr ⟨fun x => stored_q arg17 harg17 xs1 arg19 harg19 xs3 arg2 harg2 x1 arg5 harg5 x4 arg8 harg8 x7 (by decide) (by decide) _ (by decide) _ (by exact rfl) x, ?_⟩

theorem coverC_10 (y : S1x10x512x128.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).1 S1x1x512x128.size (by sl_kernel_rfl) y
theorem readC_10 (v : View sig .tc .vmem S1x10x512x128 .bf16) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).1) = MQ xs1 xs3 x1 x4 x7 :=
  funext fun y => View.read_writes_apply_of_pieces v f (MQ xs1 xs3 x1 x4 x7) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).1
    (piecesC_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesC_11 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.1, ∀ x : p.1.shape.Idx, p.2 x = MK xs1 xs3 x2 x5 x8 (p.1.emb x) := by
  dsimp only [kernelRun0_C]
  refine List.forall_mem_cons.mpr ⟨fun x => stored_k arg17 harg17 xs1 arg19 harg19 xs3 arg3 harg3 x2 arg6 harg6 x5 arg9 harg9 x8
    slices_S512x256_o0_0_S512x128 slices_S512x256_o0_128_S512x128 (by decide) (by decide) (by decide) (by decide) (by decide)
    (by decide) (by decide) (by decide) (by decide) (by decide) _ (by exact rfl) x, List.forall_mem_nil _⟩

theorem coverC_11 (y : S1x512x2x128.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.1 S1x512x2x128.size (by sl_kernel_rfl) y
theorem readC_11 (v : View sig .tc .vmem S1x512x2x128 .bf16) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.1) = MK xs1 xs3 x2 x5 x8 :=
  funext fun y => View.read_writes_apply_of_pieces v f (MK xs1 xs3 x2 x5 x8) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.1
    (piecesC_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

theorem piecesC_12 : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.1, ∀ x : p.1.shape.Idx, p.2 x = MK xs1 xs3 x3 x6 x9 (p.1.emb x) := by
  dsimp only [kernelRun0_C]
  refine List.forall_mem_cons.mpr ⟨fun x => stored_k arg17 harg17 xs1 arg19 harg19 xs3 arg4 harg4 x3 arg7 harg7 x6 arg10 harg10 x9
    slices_S512x256_o0_0_S512x128 slices_S512x256_o0_128_S512x128 (by decide) (by decide) (by decide) (by decide) (by decide)
    (by decide) (by decide) (by decide) (by decide) (by decide) _ (by exact rfl) x, List.forall_mem_nil _⟩

theorem coverC_12 (y : S1x512x2x128.Idx) : ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.1, y ∈ p.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.1 S1x512x2x128.size (by sl_kernel_rfl) y
theorem readC_12 (v : View sig .tc .vmem S1x512x2x128 .bf16) (f) : v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.1) = MK xs1 xs3 x3 x6 x9 :=
  funext fun y => View.read_writes_apply_of_pieces v f (MK xs1 xs3 x3 x6 x9) (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3).2.2.1
    (piecesC_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3) y (coverC_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs1 xs3 y)

end Cert.KernelIdeal.Gen

end
-- ==== Proof.Body.lean ====
/- The pipeline's proof data with every buffer's contents named: at each grid point the codes and the scales of the point's
   rows, in one pair of scratch buffers, and the projections of the rows before; the body's triple at every point, the run
   and the frame. -/
module

public import proofs.«01_k».proof.Proof.ReadA
public import proofs.«01_k».proof.Proof.ReadB
public import proofs.«01_k».proof.Proof.ReadC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The rows of point `t`. -/
abbrev xb (c : Dev nD) (t : Fin cfg0.N) : Vec Ideal S1x512x5120 .bf16 := iblk m c 0 t

/-- The point before. -/
def prev (t : Fin cfg0.N) : Fin cfg0.N := ⟨t.val - 1, Nat.lt_of_le_of_lt (Nat.sub_le _ _) t.isLt⟩

/-- The scratch buffers after an even point: the first pair holds the rows' codes and scales; -/
def PhiE (c : Dev nD) (x : Vec Ideal S1x512x5120 .bf16) : sProp 𝕄 :=
  iprop(iprop(owns (c : Thread nD τ) scM0_0 fullShare (QC x) ∗ (∃ d, owns (c : Thread nD τ) scM0_1 fullShare d) ∗ owns (c : Thread nD τ) scM0_2 fullShare (QS x) ∗ (∃ d, owns (c : Thread nD τ) scM0_3 fullShare d)) ∗ (∃ r, prngReg c r))

/-- after an odd point, the second. -/
def PhiO (c : Dev nD) (x : Vec Ideal S1x512x5120 .bf16) : sProp 𝕄 :=
  iprop(iprop((∃ d, owns (c : Thread nD τ) scM0_0 fullShare d) ∗ owns (c : Thread nD τ) scM0_1 fullShare (QC x) ∗ (∃ d, owns (c : Thread nD τ) scM0_2 fullShare d) ∗ owns (c : Thread nD τ) scM0_3 fullShare (QS x)) ∗ (∃ r, prngReg c r))

/-- The region's invariant before position `n`. -/
def PhiS (c : Dev nD) : (n : ℕ) → n ≤ cfg0.N → sProp 𝕄
  | 0, _ => Pipeline.ΦA spec0 c
  | n + 1, hn => if n % 2 = 0 then PhiE c (xb m c ⟨n, hn⟩) else PhiO c (xb m c ⟨n, hn⟩)

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = if t.val % 2 = 0 then PhiE c (xb m c t) else PhiO c (xb m c t) := rfl

theorem PhiS_pos (c : Dev nD) (t : Fin cfg0.N) (hz : t.val ≠ 0) :
    PhiS m c t.val (Nat.le_of_lt t.isLt) = if (t.val - 1) % 2 = 0 then PhiE c (xb m c (prev t)) else PhiO c (xb m c (prev t)) := by
  obtain ⟨n, hn⟩ := t
  cases n with
  | zero => exact absurd rfl hz
  | succ n => rfl

/-- The proof data: each input's buffer at its block, each output's at the value of its rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => MQ (QC (xb m c (prev t))) (QS (xb m c (prev t))) (iblk m c 1 t) (iblk m c 4 t) (iblk m c 7 t)
    | ⟨11, _⟩ => MK (QC (xb m c (prev t))) (QS (xb m c (prev t))) (iblk m c 2 t) (iblk m c 5 t) (iblk m c 8 t)
    | ⟨12, _⟩ => MK (QC (xb m c (prev t))) (QS (xb m c (prev t))) (iblk m c 3 t) (iblk m c 6 t) (iblk m c 9 t)
    | ⟨13, _⟩ => OC (xb m c t)
    | ⟨14, _⟩ => OS (xb m c t)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = MQ (QC (xb m c (prev t))) (QS (xb m c (prev t))) (iblk m c 1 t) (iblk m c 4 t) (iblk m c 7 t) := by dsimp only [dats]
theorem after0_11 (c : Dev nD) (t : Fin cfg0.N) : (dats m 0 c).after 11 t = MK (QC (xb m c (prev t))) (QS (xb m c (prev t))) (iblk m c 2 t) (iblk m c 5 t) (iblk m c 8 t) := by dsimp only [dats]
theorem after0_12 (c : Dev nD) (t : Fin cfg0.N) : (dats m 0 c).after 12 t = MK (QC (xb m c (prev t))) (QS (xb m c (prev t))) (iblk m c 3 t) (iblk m c 6 t) (iblk m c 9 t) := by dsimp only [dats]
theorem after0_13 (c : Dev nD) (t : Fin cfg0.N) : (dats m 0 c).after 13 t = OC (xb m c t) := by dsimp only [dats]
theorem after0_14 (c : Dev nD) (t : Fin cfg0.N) : (dats m 0 c).after 14 t = OS (xb m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- A window the body is never idle at is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 19200000 in
/-- The body at the first point. -/
theorem sound_A (c : Dev nD) (t : Fin cfg0.N) (h0 : t.val % 33 = 0) (h1 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32)) (h2 : ¬t.val % 2 = 1) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [Dat.leavesExact_idle (dats m 0 c) 10 t (idleAt0_10_A t ((hcond0_0 t).mpr h0) (fun h => h1 ((hcond0_1 t).mp h)) (fun h => h2 ((hcond0_2 t).mp h))) (noFlush0_10_A t ((hcond0_0 t).mpr h0) (fun h => h1 ((hcond0_1 t).mp h)) (fun h => h2 ((hcond0_2 t).mp h)))]
  rw [Dat.leavesExact_idle (dats m 0 c) 11 t (idleAt0_11_A t ((hcond0_0 t).mpr h0) (fun h => h1 ((hcond0_1 t).mp h)) (fun h => h2 ((hcond0_2 t).mp h))) (noFlush0_11_A t ((hcond0_0 t).mpr h0) (fun h => h1 ((hcond0_1 t).mp h)) (fun h => h2 ((hcond0_2 t).mp h)))]
  rw [Dat.leavesExact_idle (dats m 0 c) 12 t (idleAt0_12_A t ((hcond0_0 t).mpr h0) (fun h => h1 ((hcond0_1 t).mp h)) (fun h => h2 ((hcond0_2 t).mp h))) (noFlush0_12_A t ((hcond0_0 t).mpr h0) (fun h => h1 ((hcond0_1 t).mp h)) (fun h => h2 ((hcond0_2 t).mp h)))]
  rw [leaves_live m c 13 t (liveAt0_13_A t ((hcond0_0 t).mpr h0) (fun h => h1 ((hcond0_1 t).mp h)) (fun h => h2 ((hcond0_2 t).mp h))), after0_13]
  rw [leaves_live m c 14 t (liveAt0_14_A t ((hcond0_0 t).mpr h0) (fun h => h1 ((hcond0_1 t).mp h)) (fun h => h2 ((hcond0_2 t).mp h))), after0_14]
  have hz : t.val = 0 := by omega
  rw [PhiS_castSucc m c t, PhiS_zero m c _ _ hz, PhiA0_eq, if_pos (by omega)]
  unfold PhiE
  iintro ⟨⟨⟨HS0, ⟨%ds1, HS1⟩, HS2, ⟨%ds3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A (F := Ideal) c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) ds1 ds3).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, ⟨%e13, H13⟩, ⟨%e14, H14⟩, ⟨%es0, HS0⟩, HS1, ⟨%es2, HS2⟩, HS3⟩
  isplitl [HS0 HS1 HS2 HS3 Hg]
  · isplitl [HS0 HS1 HS2 HS3]
    · isplitl [HS0]
      · unfold owns; iexists _; isplitr
        swap; · iexact HS0
        ipureintro; exact readA_S0 c _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · iexists _; iexact HS1
      isplitl [HS2]
      · unfold owns; iexists _; isplitr
        swap; · iexact HS2
        ipureintro; exact readA_S2 c _ _ _ _ _ _ _ _ _ _ _ _ _ _ _ _ _ _ _ _ _ _ _ _ _ _ _ _ _ _ _ _ _ _ _ _ _ _ _ _ _ _ _ _ _ _ _ _ _ _ _ _ _ _ _ _
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]
  · unfold owns; iexists _; isplitr
    swap; · iexact H13
    ipureintro; exact readA_13 c _ _ _ _ _ _ _ _ _ _ _ _ _ _ _ _ _ _ _ _ _ _ _ _ _ _ _ _ _ _ _ _ _ _ _ _ _ _ _ _ _ _ _ _ _ _ _ _ _ _ _ _ _ _ _ _
  unfold owns; iexists _; isplitr
  swap; · iexact H14
  ipureintro; exact readA_14 c _ _ _ _ _ _ _ _ _ _ _ _ _ _ _ _ _ _ _ _ _ _ _ _ _ _ _ _ _ _ _ _ _ _ _ _ _ _ _ _ _ _ _ _ _ _ _ _ _ _ _ _ _ _ _ _

set_option maxHeartbeats 19200000 in
/-- The body at an odd point. -/
theorem sound_B (c : Dev nD) (t : Fin cfg0.N) (h0 : ¬t.val % 33 = 0) (h1 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32)) (h2 : t.val % 2 = 1) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10_B t (fun h => h0 ((hcond0_0 t).mp h)) (fun h => h1 ((hcond0_1 t).mp h)) ((hcond0_2 t).mpr h2)), after0_10]
  rw [leaves_live m c 11 t (liveAt0_11_B t (fun h => h0 ((hcond0_0 t).mp h)) (fun h => h1 ((hcond0_1 t).mp h)) ((hcond0_2 t).mpr h2)), after0_11]
  rw [leaves_live m c 12 t (liveAt0_12_B t (fun h => h0 ((hcond0_0 t).mp h)) (fun h => h1 ((hcond0_1 t).mp h)) ((hcond0_2 t).mpr h2)), after0_12]
  rw [leaves_live m c 13 t (liveAt0_13_B t (fun h => h0 ((hcond0_0 t).mp h)) (fun h => h1 ((hcond0_1 t).mp h)) ((hcond0_2 t).mpr h2)), after0_13]
  rw [leaves_live m c 14 t (liveAt0_14_B t (fun h => h0 ((hcond0_0 t).mp h)) (fun h => h1 ((hcond0_1 t).mp h)) ((hcond0_2 t).mpr h2)), after0_14]
  have hz : t.val ≠ 0 := by omega
  rw [PhiS_castSucc m c t, PhiS_pos m c t hz, if_pos (by omega), if_neg (by omega)]
  unfold PhiE PhiO
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_B (F := Ideal) c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (QC (xb m c (prev t))) (QS (xb m c (prev t)))).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, ⟨%e14, H14⟩, HS0, ⟨%es1, HS1⟩, HS2, ⟨%es3, HS3⟩⟩
  isplitl [HS0 HS1 HS2 HS3 Hg]
  · isplitl [HS0 HS1 HS2 HS3]
    · isplitl [HS0]
      · iexists _; iexact HS0
      isplitl [HS1]
      · unfold owns; iexists _; isplitr
        swap; · iexact HS1
        ipureintro; exact readB_S1 c _ _ _ _ _ _ _ _ _ _ _ _ _ _ _ _ _ _ _ _ _ _ _ _ _ _ _ _ _ _ _ _ _ _ _ _ _ _ _ _ _ _ _ _ _ _ _ _ _ _ _ _ _ _ _ _
      isplitl [HS2]
      · iexists _; iexact HS2
      unfold owns; iexists _; isplitr
      swap; · iexact HS3
      ipureintro; exact readB_S3 c _ _ _ _ _ _ _ _ _ _ _ _ _ _ _ _ _ _ _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact readB_10 c _ _ _ _ _ _ _ _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact readB_11 c _ _ _ _ _ _ _ _ _ _ _ _ _ _ _ _ _ _ _ _ _ _ _ _ _ _ _ _ _ _ _ _ _ _ _ _ _ _ _ _ _ _ _ _ _ _ _ _ _ _ _ _ _ _ _ _
  isplitl [H12]
  · unfold owns; iexists _; isplitr
    swap; · iexact H12
    ipureintro; exact readB_12 c _ _ _ _ _ _ _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact readB_13 c _ _ _ _ _ _ _ _ _ _ _ _ _ _ _ _ _ _ _ _ _ _ _ _ _ _ _ _ _ _ _ _ _ _ _ _ _ _ _ _ _ _ _ _ _ _ _ _ _ _ _ _ _ _ _ _
  unfold owns; iexists _; isplitr
  swap; · iexact H14
  ipureintro; exact readB_14 c _ _ _ _ _ _ _ _ _ _ _ _ _ _ _ _ _ _ _ _ _ _ _ _ _ _ _ _ _ _ _ _ _ _ _ _ _ _ _ _ _ _ _ _ _ _ _ _ _ _ _ _ _ _ _ _

set_option maxHeartbeats 19200000 in
/-- The body at an even point after the first. -/
theorem sound_C (c : Dev nD) (t : Fin cfg0.N) (h0 : ¬t.val % 33 = 0) (h1 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30 ∨ t.val % 33 = 32)) (h2 : ¬t.val % 2 = 1) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10_C t (fun h => h0 ((hcond0_0 t).mp h)) ((hcond0_1 t).mpr h1) (fun h => h2 ((hcond0_2 t).mp h))), after0_10]
  rw [leaves_live m c 11 t (liveAt0_11_C t (fun h => h0 ((hcond0_0 t).mp h)) ((hcond0_1 t).mpr h1) (fun h => h2 ((hcond0_2 t).mp h))), after0_11]
  rw [leaves_live m c 12 t (liveAt0_12_C t (fun h => h0 ((hcond0_0 t).mp h)) ((hcond0_1 t).mpr h1) (fun h => h2 ((hcond0_2 t).mp h))), after0_12]
  rw [leaves_live m c 13 t (liveAt0_13_C t (fun h => h0 ((hcond0_0 t).mp h)) ((hcond0_1 t).mpr h1) (fun h => h2 ((hcond0_2 t).mp h))), after0_13]
  rw [leaves_live m c 14 t (liveAt0_14_C t (fun h => h0 ((hcond0_0 t).mp h)) ((hcond0_1 t).mpr h1) (fun h => h2 ((hcond0_2 t).mp h))), after0_14]
  have hz : t.val ≠ 0 := by omega
  rw [PhiS_castSucc m c t, PhiS_pos m c t hz, if_neg (by omega), if_pos (by omega)]
  unfold PhiE PhiO
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_C (F := Ideal) c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (QC (xb m c (prev t))) (QS (xb m c (prev t)))).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, ⟨%e14, H14⟩, ⟨%es0, HS0⟩, HS1, ⟨%es2, HS2⟩, HS3⟩
  isplitl [HS0 HS1 HS2 HS3 Hg]
  · isplitl [HS0 HS1 HS2 HS3]
    · isplitl [HS0]
      · unfold owns; iexists _; isplitr
        swap; · iexact HS0
        ipureintro; exact readC_S0 c _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · iexists _; iexact HS1
      isplitl [HS2]
      · unfold owns; iexists _; isplitr
        swap; · iexact HS2
        ipureintro; exact readC_S2 c _ _ _ _ _ _ _ _ _ _ _ _ _ _ _ _ _ _ _ _ _ _ _ _ _ _ _ _ _ _ _ _ _ _ _ _ _ _ _ _ _ _ _ _ _ _ _ _ _ _ _ _ _ _ _ _
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact readC_10 c _ _ _ _ _ _ _ _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact readC_11 c _ _ _ _ _ _ _ _ _ _ _ _ _ _ _ _ _ _ _ _ _ _ _ _ _ _ _ _ _ _ _ _ _ _ _ _ _ _ _ _ _ _ _ _ _ _ _ _ _ _ _ _ _ _ _ _
  isplitl [H12]
  · unfold owns; iexists _; isplitr
    swap; · iexact H12
    ipureintro; exact readC_12 c _ _ _ _ _ _ _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact readC_13 c _ _ _ _ _ _ _ _ _ _ _ _ _ _ _ _ _ _ _ _ _ _ _ _ _ _ _ _ _ _ _ _ _ _ _ _ _ _ _ _ _ _ _ _ _ _ _ _ _ _ _ _ _ _ _ _
  unfold owns; iexists _; isplitr
  swap; · iexact H14
  ipureintro; exact readC_14 c _ _ _ _ _ _ _ _ _ _ _ _ _ _ _ _ _ _ _ _ _ _ _ _ _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 33 := lt_of_lt_of_eq t.isLt (show cfg0.N = 33 from N_0)
  by_cases h2 : t.val % 2 = 1
  · exact sound_B m c t (by omega) (by omega) h2
  · by_cases h0 : t.val % 33 = 0
    · exact sound_A m c t h0 (by omega) h2
    · exact sound_C m c t h0 (by omega) h2

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem Phi_out (c : Dev nD) : (dats m 0 c).Φ (Fin.last cfg0.N) ⊢ Pipeline.ΦA spec0 c := by
  rw [show (dats m 0 c).Φ (Fin.last cfg0.N) = PhiS m c (31 + 1 + 1) (Nat.le_of_eq N_0.symm) from rfl,
    show PhiS m c (31 + 1 + 1) (Nat.le_of_eq N_0.symm) = PhiE c (xb m c ⟨32, Nat.le_of_eq N_0.symm⟩) from rfl, PhiA0_eq]
  unfold PhiE
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The run ends, leaves the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.Frames.lean ====
/- The frame claims of the three programs and the rewrites' statements. -/
module

public import proofs.«01_k».proof.Defs
public import proofs.«01_k».proof.Proof.KFrame
public import proofs.«01_k».proof.Proof.Gen.ReferenceIdeal.Frame
public import proofs.«01_k».proof.Proof.Body
public import Idealize.ShloMosaic.Lib.Bf16Pair

@[expose] public section

noncomputable section

namespace Cert.Proof

open Idealize.ShloMosaic Idealize.SL.Sem

theorem frame_Kernel : Cert.quiescent_Kernel := fun m g _ => Cert.Kernel.Gen.frame m g

theorem frame_KernelIdeal : Cert.quiescent_KernelIdeal := fun m g _ => Cert.KernelIdeal.Gen.frame m g

theorem frame_ReferenceIdeal : Cert.quiescent_ReferenceIdeal := fun m g _ => Cert.ReferenceIdeal.Gen.frame m g

theorem preserves : Cert.preserves_Kernel_KernelIdeal :=
  ⟨IdealRules.bf16_pair.packStatement _, IdealRules.bf16_pair.statement _ _⟩

end Cert.Proof

end
-- ==== Proof.Spec.lean ====
/- What both programs compute of the argument arrays, entry by entry: the scale and the codes of each activation row, and
   the three projections of the quantised rows. -/
module

public import proofs.«01_k».proof.Proof.Rows

@[expose] public section

noncomputable section

namespace Cert.Rows

open Idealize.ShloMosaic Idealize.ShloMosaic.ValueIdx

/-- Row `s` of batch `b`. -/
def rowX (X : (⟨3, ![8, 2048, 5120]⟩ : Shape).Idx → EReal) (b : Fin 8) (s : Fin 2048) : Fin 5120 → EReal :=
  fun k => X (ix3 b s k)

/-- Lane `l` of head `h` as a column of the `n` weight columns. -/
def headCol (n : Nat) {H : Nat} (hn : n = 128 * H) (h : Fin H) (l : Fin 128) : Fin n := ⟨128 * h.val + l.val, by omega⟩

/-- The entry of a projection at row `s` of batch `b` and a column. -/
def projAt (n : Nat) (X : (⟨3, ![8, 2048, 5120]⟩ : Shape).Idx → EReal) (W : (⟨2, ![5120, n]⟩ : Shape).Idx → EReal)
    (S B : (⟨1, ![n]⟩ : Shape).Idx → EReal) (b : Fin 8) (s : Fin 2048) (q : Fin n) : EReal :=
  lin (rowC (rowX X b s)) (fun k => W (ix2 k q)) (rowS (rowX X b s)) (S (ix1 q)) (B (ix1 q))

/-- The ten-head projection, -/
def specQ (X : (⟨3, ![8, 2048, 5120]⟩ : Shape).Idx → EReal) (W : (⟨2, ![5120, 1280]⟩ : Shape).Idx → EReal)
    (S B : (⟨1, ![1280]⟩ : Shape).Idx → EReal) : (⟨4, ![8, 2048, 10, 128]⟩ : Shape).Idx → EReal :=
  fun y => projAt 1280 X W S B (y 0) (y 1) (headCol 1280 (H := 10) rfl (y 2) (y 3))

/-- a two-head projection, -/
def specK (X : (⟨3, ![8, 2048, 5120]⟩ : Shape).Idx → EReal) (W : (⟨2, ![5120, 256]⟩ : Shape).Idx → EReal)
    (S B : (⟨1, ![256]⟩ : Shape).Idx → EReal) : (⟨4, ![8, 2048, 2, 128]⟩ : Shape).Idx → EReal :=
  fun y => projAt 256 X W S B (y 0) (y 1) (headCol 256 (H := 2) rfl (y 2) (y 3))

/-- the codes, -/
def specC (X : (⟨3, ![8, 2048, 5120]⟩ : Shape).Idx → EReal) : (⟨3, ![8, 2048, 5120]⟩ : Shape).Idx → EReal :=
  fun y => rowC (rowX X (y 0) (y 1)) (y 2)

/-- and the scales. -/
def specS (X : (⟨3, ![8, 2048, 5120]⟩ : Shape).Idx → EReal) : (⟨3, ![8, 2048, 1]⟩ : Shape).Idx → EReal :=
  fun y => rowS (rowX X (y 0) (y 1))

end Cert.Rows

end
-- ==== Proof.Ends.lean ====
/- What the kernel's result arrays hold when it ends: each is the specified function of the argument arrays. -/
module

public import proofs.«01_k».proof.Proof.Body
public import proofs.«01_k».proof.Proof.Spec

@[expose] public section

set_option maxRecDepth 16384

noncomputable section

namespace Cert.KernelIdeal.Gen

open Idealize.ShloMosaic hiding ix1 ix2 ix3 ix4 eq_ix1 eq_ix2 eq_ix3 eq_ix4
open Idealize.ShloMosaic.TcCoe Idealize.SL.Sem
open Idealize.ShloMosaic.ValueIdx Cert.Rows
open Idealize.ShloMosaic.Pipeline (Dat Cfg Window)

variable (m : (ℓ : Loc nD τ sig) → Buf (Elt Ideal) ℓ) (ρ : Dev nD → PrngReg)

/-! ## Where each block lies -/

theorem at0_0 : ∀ t : Fin cfg0.N, win0_0.index t = ![min t.val 31 / 4, min t.val 31 % 4, 0] :=
  (by decide +kernel : ∀ t : Fin grid0.N, _)
theorem at0_10 : ∀ t : Fin cfg0.N, win0_10.index t = ![(t.val - 1) / 4, 0, (t.val - 1) % 4, 0] :=
  (by decide +kernel : ∀ t : Fin grid0.N, _)
theorem at0_11 : ∀ t : Fin cfg0.N, win0_11.index t = ![(t.val - 1) / 4, (t.val - 1) % 4, 0, 0] :=
  (by decide +kernel : ∀ t : Fin grid0.N, _)
theorem at0_12 : ∀ t : Fin cfg0.N, win0_12.index t = ![(t.val - 1) / 4, (t.val - 1) % 4, 0, 0] :=
  (by decide +kernel : ∀ t : Fin grid0.N, _)
theorem at0_13 : ∀ t : Fin cfg0.N, win0_13.index t = ![min t.val 31 / 4, min t.val 31 % 4, 0] :=
  (by decide +kernel : ∀ t : Fin grid0.N, _)
theorem at0_14 : ∀ t : Fin cfg0.N, win0_14.index t = ![min t.val 31 / 4, 0, min t.val 31 % 4] :=
  (by decide +kernel : ∀ t : Fin grid0.N, _)
theorem at0_w : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)
/-- The projections are not written back from the first point. -/
theorem flush_pos : ∀ t : Fin cfg0.N, (cfg0.win 10).flush t = true ∨ (cfg0.win 11).flush t = true ∨ (cfg0.win 12).flush t = true → 0 < t.val :=
  (by decide +kernel : ∀ t : Fin grid0.N, _)

/-! ## What the inputs' blocks hold -/

/-- A point's rows are rows of the activations. -/
theorem row_at (c : Dev nD) (t : Fin cfg0.N) (r : Fin 512) (b : Fin 8) (s : Fin 2048) (hb : b.val = min t.val 31 / 4)
    (hs : s.val = min t.val 31 % 4 * 512 + r.val) :
    blockRow (xb m c t) r = rowX (m ((c : Thread nD τ).loc main_arg0)) b s := by
  funext k
  show V m c main_arg0 (((cfg0.win 0).blk t).view.emb (ix3 (0 : Fin 1) r k)) = m ((c : Thread nD τ).loc main_arg0) (ix3 b s k)
  rw [V_main_arg0]
  refine congrArg _ (funext fun a => Fin.ext ?_)
  match a with
  | ⟨0, _⟩ => refine Eq.trans ?_ hb.symm; blk_simp [at0_0]
  | ⟨1, _⟩ => refine Eq.trans ?_ hs.symm; blk_simp [at0_0]
  | ⟨2, _⟩ => blk_simp [at0_0]

/-- The weights' blocks are the weights, -/
theorem wq_at (c : Dev nD) (t : Fin cfg0.N) (j : S5120x1280.Idx) : iblk m c 1 t j = m ((c : Thread nD τ).loc main_arg1) j := by
  show V m c main_arg1 (((cfg0.win 1).blk t).view.emb j) = _
  rw [V_main_arg1]
  refine congrArg _ (funext fun a => Fin.ext ?_)
  match a with
  | ⟨0, _⟩ => blk_simp [(at0_w t).1]
  | ⟨1, _⟩ => blk_simp [(at0_w t).1]
theorem wk_at (c : Dev nD) (t : Fin cfg0.N) (j : S5120x256.Idx) : iblk m c 2 t j = m ((c : Thread nD τ).loc main_arg4) j := by
  show V m c main_arg4 (((cfg0.win 2).blk t).view.emb j) = _
  rw [V_main_arg4]
  refine congrArg _ (funext fun a => Fin.ext ?_)
  match a with
  | ⟨0, _⟩ => blk_simp [(at0_w t).2.1]
  | ⟨1, _⟩ => blk_simp [(at0_w t).2.1]
theorem wv_at (c : Dev nD) (t : Fin cfg0.N) (j : S5120x256.Idx) : iblk m c 3 t j = m ((c : Thread nD τ).loc main_arg7) j := by
  show V m c main_arg7 (((cfg0.win 3).blk t).view.emb j) = _
  rw [V_main_arg7]
  refine congrArg _ (funext fun a => Fin.ext ?_)
  match a with
  | ⟨0, _⟩ => blk_simp [(at0_w t).2.2.1]
  | ⟨1, _⟩ => blk_simp [(at0_w t).2.2.1]

/-- A vector laid out as one row, at a column. -/
theorem oneRow {α : Type} {n : Nat} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_two, Shape.rowMajor_val_one]
    show q.val = 0 * n + q.val
    omega)

/-- the rows laid out before the region, -/
theorem V_v0 (c : Dev nD) : V m c main_v0 = shapeCast S1x1280 (m ((c : Thread nD τ).loc main_arg2)) shapeCasts_S1280_S1x1280 := by
  show StableHlo.after hostOps0 (fun b => m ⟨c, b⟩) (Proc.devRef .tc main_v0) = _
  after_results
  rfl
theorem V_v1 (c : Dev nD) : V m c main_v1 = shapeCast S1x256 (m ((c : Thread nD τ).loc main_arg5)) shapeCasts_S256_S1x256 := by
  show StableHlo.after hostOps0 (fun b => m ⟨c, b⟩) (Proc.devRef .tc main_v1) = _
  after_results
  rfl
theorem V_v2 (c : Dev nD) : V m c main_v2 = shapeCast S1x256 (m ((c : Thread nD τ).loc main_arg8)) shapeCasts_S256_S1x256 := by
  show StableHlo.after hostOps0 (fun b => m ⟨c, b⟩) (Proc.devRef .tc main_v2) = _
  after_results
  rfl
theorem V_v3 (c : Dev nD) : V m c main_v3 = shapeCast S1x1280 (m ((c : Thread nD τ).loc main_arg3)) shapeCasts_S1280_S1x1280 := by
  show StableHlo.after hostOps0 (fun b => m ⟨c, b⟩) (Proc.devRef .tc main_v3) = _
  after_results
  rfl
theorem V_v4 (c : Dev nD) : V m c main_v4 = shapeCast S1x256 (m ((c : Thread nD τ).loc main_arg6)) shapeCasts_S256_S1x256 := by
  show StableHlo.after hostOps0 (fun b => m ⟨c, b⟩) (Proc.devRef .tc main_v4) = _
  after_results
  rfl
theorem V_v5 (c : Dev nD) : V m c main_v5 = shapeCast S1x256 (m ((c : Thread nD τ).loc main_arg9)) shapeCasts_S256_S1x256 := by
  show StableHlo.after hostOps0 (fun b => m ⟨c, b⟩) (Proc.devRef .tc main_v5) = _
  after_results
  rfl

/-- and the blocks of those. -/
theorem sq_at (c : Dev nD) (t : Fin cfg0.N) (q : Fin 1280) : iblk m c 4 t (ix2 (0 : Fin 1) q) = m ((c : Thread nD τ).loc main_arg2) (ix1 q) := by
  refine Eq.trans ?_ ((congrFun (V_v0 m c) (ix2 (0 : Fin 1) q)).trans (oneRow _ _ q))
  show V m c main_v0 (((cfg0.win 4).blk t).view.emb (ix2 (0 : Fin 1) q)) = _
  refine congrArg _ (funext fun a => Fin.ext ?_)
  match a with
  | ⟨0, _⟩ => blk_simp [(at0_w t).2.2.2.1]
  | ⟨1, _⟩ => blk_simp [(at0_w t).2.2.2.1]
theorem sk_at (c : Dev nD) (t : Fin cfg0.N) (q : Fin 256) : iblk m c 5 t (ix2 (0 : Fin 1) q) = m ((c : Thread nD τ).loc main_arg5) (ix1 q) := by
  refine Eq.trans ?_ ((congrFun (V_v1 m c) (ix2 (0 : Fin 1) q)).trans (oneRow _ _ q))
  show V m c main_v1 (((cfg0.win 5).blk t).view.emb (ix2 (0 : Fin 1) q)) = _
  refine congrArg _ (funext fun a => Fin.ext ?_)
  match a with
  | ⟨0, _⟩ => blk_simp [(at0_w t).2.2.2.2.1]
  | ⟨1, _⟩ => blk_simp [(at0_w t).2.2.2.2.1]
theorem sv_at (c : Dev nD) (t : Fin cfg0.N) (q : Fin 256) : iblk m c 6 t (ix2 (0 : Fin 1) q) = m ((c : Thread nD τ).loc main_arg8) (ix1 q) := by
  refine Eq.trans ?_ ((congrFun (V_v2 m c) (ix2 (0 : Fin 1) q)).trans (oneRow _ _ q))
  show V m c main_v2 (((cfg0.win 6).blk t).view.emb (ix2 (0 : Fin 1) q)) = _
  refine congrArg _ (funext fun a => Fin.ext ?_)
  match a with
  | ⟨0, _⟩ => blk_simp [(at0_w t).2.2.2.2.2.1]
  | ⟨1, _⟩ => blk_simp [(at0_w t).2.2.2.2.2.1]
theorem bq_at (c : Dev nD) (t : Fin cfg0.N) (q : Fin 1280) : iblk m c 7 t (ix2 (0 : Fin 1) q) = m ((c : Thread nD τ).loc main_arg3) (ix1 q) := by
  refine Eq.trans ?_ ((congrFun (V_v3 m c) (ix2 (0 : Fin 1) q)).trans (oneRow _ _ q))
  show V m c main_v3 (((cfg0.win 7).blk t).view.emb (ix2 (0 : Fin 1) q)) = _
  refine congrArg _ (funext fun a => Fin.ext ?_)
  match a with
  | ⟨0, _⟩ => blk_simp [(at0_w t).2.2.2.2.2.2.1]
  | ⟨1, _⟩ => blk_simp [(at0_w t).2.2.2.2.2.2.1]
theorem bk_at (c : Dev nD) (t : Fin cfg0.N) (q : Fin 256) : iblk m c 8 t (ix2 (0 : Fin 1) q) = m ((c : Thread nD τ).loc main_arg6) (ix1 q) := by
  refine Eq.trans ?_ ((congrFun (V_v4 m c) (ix2 (0 : Fin 1) q)).trans (oneRow _ _ q))
  show V m c main_v4 (((cfg0.win 8).blk t).view.emb (ix2 (0 : Fin 1) q)) = _
  refine congrArg _ (funext fun a => Fin.ext ?_)
  match a with
  | ⟨0, _⟩ => blk_simp [(at0_w t).2.2.2.2.2.2.2.1]
  | ⟨1, _⟩ => blk_simp [(at0_w t).2.2.2.2.2.2.2.1]
theorem bv_at (c : Dev nD) (t : Fin cfg0.N) (q : Fin 256) : iblk m c 9 t (ix2 (0 : Fin 1) q) = m ((c : Thread nD τ).loc main_arg9) (ix1 q) := by
  refine Eq.trans ?_ ((congrFun (V_v5 m c) (ix2 (0 : Fin 1) q)).trans (oneRow _ _ q))
  show V m c main_v5 (((cfg0.win 9).blk t).view.emb (ix2 (0 : Fin 1) q)) = _
  refine congrArg _ (funext fun a => Fin.ext ?_)
  match a with
  | ⟨0, _⟩ => blk_simp [(at0_w t).2.2.2.2.2.2.2.2]
  | ⟨1, _⟩ => blk_simp [(at0_w t).2.2.2.2.2.2.2.2]

/-! ## The arrays when the region ends -/

/-- A block of ten heads at an index, from its rows and its columns, -/
theorem MQ_at (x : S1x512x5120.Idx → EReal) (w : S5120x1280.Idx → EReal) (s b : S1x1280.Idx → EReal)
    (X : S8x2048x5120.Idx → EReal) (W : S5120x1280.Idx → EReal) (S B : S1280.Idx → EReal) (y : S1x10x512x128.Idx)
    (bb : Fin 8) (ss : Fin 2048) (q : Fin 1280) (hq : col10 (y 1) (y 3) = q)
    (hr : blockRow x (y 2) = rowX X bb ss) (hw : ∀ j, w j = W j) (hs : s (ix2 (0 : Fin 1) q) = S (ix1 q))
    (hb : b (ix2 (0 : Fin 1) q) = B (ix1 q)) :
    MQ (QC x) (QS x) w s b y = projAt 1280 X W S B bb ss q := by
  have e : MQ (QC x) (QS x) w s b y = lin (rowC (blockRow x (y 2))) (fun k => w (ix2 k (col10 (y 1) (y 3))))
      (rowS (blockRow x (y 2))) (s (ix2 (0 : Fin 1) (col10 (y 1) (y 3)))) (b (ix2 (0 : Fin 1) (col10 (y 1) (y 3)))) := rfl
  rw [e, hq, hr, hs, hb]
  unfold projAt
  congr 1
  funext k
  exact hw _

/-- and a block of two. -/
theorem MK_at (x : S1x512x5120.Idx → EReal) (w : S5120x256.Idx → EReal) (s b : S1x256.Idx → EReal)
    (X : S8x2048x5120.Idx → EReal) (W : S5120x256.Idx → EReal) (S B : S256.Idx → EReal) (y : S1x512x2x128.Idx)
    (bb : Fin 8) (ss : Fin 2048) (q : Fin 256) (hq : col2 (y 2) (y 3) = q)
    (hr : blockRow x (y 1) = rowX X bb ss) (hw : ∀ j, w j = W j) (hs : s (ix2 (0 : Fin 1) q) = S (ix1 q))
    (hb : b (ix2 (0 : Fin 1) q) = B (ix1 q)) :
    MK (QC x) (QS x) w s b y = projAt 256 X W S B bb ss q := by
  have e : MK (QC x) (QS x) w s b y = lin (rowC (blockRow x (y 1))) (fun k => w (ix2 k (col2 (y 2) (y 3))))
      (rowS (blockRow x (y 1))) (s (ix2 (0 : Fin 1) (col2 (y 2) (y 3)))) (b (ix2 (0 : Fin 1) (col2 (y 2) (y 3)))) := rfl
  rw [e, hq, hr, hs, hb]
  unfold projAt
  congr 1
  funext k
  exact hw _

/-- The ten-head projection, heads before rows. -/
def arrQ (X : S8x2048x5120.Idx → EReal) (W : S5120x1280.Idx → EReal) (S B : S1280.Idx → EReal) : S8x10x2048x128.Idx → EReal :=
  fun y => projAt 1280 X W S B (y 0) (y 2) (headCol 1280 (H := 10) rfl (y 1) (y 3))

theorem arr_q (c : Dev nD) : (dats m 0 c).arrAt 10 cfg0.N
    = arrQ (m ((c : Thread nD τ).loc main_arg0)) (m ((c : Thread nD τ).loc main_arg1)) (m ((c : Thread nD τ).loc main_arg2))
      (m ((c : Thread nD τ).loc main_arg3)) := by
  refine (dats m 0 c).arrAt_eq_of_covers 10 _ (by decide +kernel) fun t hf y => ?_
  have hp := flush_pos t (Or.inl hf)
  have ht : t.val < 33 := t.isLt
  have e0 : ((((cfg0.win 10).blk t).view.emb y) 0 : Nat) = (t.val - 1) / 4 + (y 0).val := by blk_simp [at0_10]
  have e1 : ((((cfg0.win 10).blk t).view.emb y) 1 : Nat) = (y 1).val := by blk_simp [at0_10]
  have e2 : ((((cfg0.win 10).blk t).view.emb y) 2 : Nat) = (t.val - 1) % 4 * 512 + (y 2).val := by blk_simp [at0_10]
  have e3 : ((((cfg0.win 10).blk t).view.emb y) 3 : Nat) = (y 3).val := by blk_simp [at0_10]
  have y0 : (y 0).val < 1 := (y 0).isLt
  rw [after0_10]
  refine MQ_at _ _ _ _ _ _ _ _ y _ _ _ ?_ (row_at m c (prev t) (y 2) _ _ ?_ ?_) (wq_at m c t) (sq_at m c t _) (bq_at m c t _)
  · refine Fin.ext ?_
    show 128 * (y 1).val + (y 3).val = 128 * ((((cfg0.win 10).blk t).view.emb y) 1).val + ((((cfg0.win 10).blk t).view.emb y) 3).val
    omega
  · show ((((cfg0.win 10).blk t).view.emb y) 0).val = min (t.val - 1) 31 / 4; omega
  · show ((((cfg0.win 10).blk t).view.emb y) 2).val = min (t.val - 1) 31 % 4 * 512 + (y 2).val; omega

theorem arr_k (c : Dev nD) : (dats m 0 c).arrAt 11 cfg0.N
    = specK (m ((c : Thread nD τ).loc main_arg0)) (m ((c : Thread nD τ).loc main_arg4)) (m ((c : Thread nD τ).loc main_arg5))
      (m ((c : Thread nD τ).loc main_arg6)) := by
  refine (dats m 0 c).arrAt_eq_of_covers 11 _ (by decide +kernel) fun t hf y => ?_
  have hp := flush_pos t (Or.inr (Or.inl hf))
  have ht : t.val < 33 := t.isLt
  have e0 : ((((cfg0.win 11).blk t).view.emb y) 0 : Nat) = (t.val - 1) / 4 + (y 0).val := by blk_simp [at0_11]
  have e1 : ((((cfg0.win 11).blk t).view.emb y) 1 : Nat) = (t.val - 1) % 4 * 512 + (y 1).val := by blk_simp [at0_11]
  have e2 : ((((cfg0.win 11).blk t).view.emb y) 2 : Nat) = (y 2).val := by blk_simp [at0_11]
  have e3 : ((((cfg0.win 11).blk t).view.emb y) 3 : Nat) = (y 3).val := by blk_simp [at0_11]
  have y0 : (y 0).val < 1 := (y 0).isLt
  rw [after0_11]
  refine MK_at _ _ _ _ _ _ _ _ y _ _ _ ?_ (row_at m c (prev t) (y 1) _ _ ?_ ?_) (wk_at m c t) (sk_at m c t _) (bk_at m c t _)
  · refine Fin.ext ?_
    show 128 * (y 2).val + (y 3).val = 128 * ((((cfg0.win 11).blk t).view.emb y) 2).val + ((((cfg0.win 11).blk t).view.emb y) 3).val
    omega
  · show ((((cfg0.win 11).blk t).view.emb y) 0).val = min (t.val - 1) 31 / 4; omega
  · show ((((cfg0.win 11).blk t).view.emb y) 1).val = min (t.val - 1) 31 % 4 * 512 + (y 1).val; omega

theorem arr_v (c : Dev nD) : (dats m 0 c).arrAt 12 cfg0.N
    = specK (m ((c : Thread nD τ).loc main_arg0)) (m ((c : Thread nD τ).loc main_arg7)) (m ((c : Thread nD τ).loc main_arg8))
      (m ((c : Thread nD τ).loc main_arg9)) := by
  refine (dats m 0 c).arrAt_eq_of_covers 12 _ (by decide +kernel) fun t hf y => ?_
  have hp := flush_pos t (Or.inr (Or.inr hf))
  have ht : t.val < 33 := t.isLt
  have e0 : ((((cfg0.win 12).blk t).view.emb y) 0 : Nat) = (t.val - 1) / 4 + (y 0).val := by blk_simp [at0_12]
  have e1 : ((((cfg0.win 12).blk t).view.emb y) 1 : Nat) = (t.val - 1) % 4 * 512 + (y 1).val := by blk_simp [at0_12]
  have e2 : ((((cfg0.win 12).blk t).view.emb y) 2 : Nat) = (y 2).val := by blk_simp [at0_12]
  have e3 : ((((cfg0.win 12).blk t).view.emb y) 3 : Nat) = (y 3).val := by blk_simp [at0_12]
  have y0 : (y 0).val < 1 := (y 0).isLt
  rw [after0_12]
  refine MK_at _ _ _ _ _ _ _ _ y _ _ _ ?_ (row_at m c (prev t) (y 1) _ _ ?_ ?_) (wv_at m c t) (sv_at m c t _) (bv_at m c t _)
  · refine Fin.ext ?_
    show 128 * (y 2).val + (y 3).val = 128 * ((((cfg0.win 12).blk t).view.emb y) 2).val + ((((cfg0.win 12).blk t).view.emb y) 3).val
    omega
  · show ((((cfg0.win 12).blk t).view.emb y) 0).val = min (t.val - 1) 31 / 4; omega
  · show ((((cfg0.win 12).blk t).view.emb y) 1).val = min (t.val - 1) 31 % 4 * 512 + (y 1).val; omega

theorem arr_c (c : Dev nD) : (dats m 0 c).arrAt 13 cfg0.N = specC (m ((c : Thread nD τ).loc main_arg0)) := by
  refine (dats m 0 c).arrAt_eq_of_covers 13 _ (by decide +kernel) fun t hf y => ?_
  have e0 : ((((cfg0.win 13).blk t).view.emb y) 0 : Nat) = min t.val 31 / 4 + (y 0).val := by blk_simp [at0_13]
  have e1 : ((((cfg0.win 13).blk t).view.emb y) 1 : Nat) = min t.val 31 % 4 * 512 + (y 1).val := by blk_simp [at0_13]
  have e2 : ((((cfg0.win 13).blk t).view.emb y) 2 : Nat) = (y 2).val := by blk_simp [at0_13]
  have y0 : (y 0).val < 1 := (y 0).isLt
  rw [after0_13]
  show rowC (blockRow (xb m c t) (y 1)) (y 2) = rowC (rowX _ ((((cfg0.win 13).blk t).view.emb y) 0) ((((cfg0.win 13).blk t).view.emb y) 1)) ((((cfg0.win 13).blk t).view.emb y) 2)
  rw [row_at m c t (y 1) ((((cfg0.win 13).blk t).view.emb y) 0) ((((cfg0.win 13).blk t).view.emb y) 1) (by omega) e1]
  exact congrArg _ (Fin.ext e2.symm)

/-- The scales, each batch's in one row. -/
def arrS (X : S8x2048x5120.Idx → EReal) : S8x1x2048.Idx → EReal := fun y => rowS (rowX X (y 0) (y 2))

theorem arr_s (c : Dev nD) : (dats m 0 c).arrAt 14 cfg0.N = arrS (m ((c : Thread nD τ).loc main_arg0)) := by
  refine (dats m 0 c).arrAt_eq_of_covers 14 _ (by decide +kernel) fun t hf y => ?_
  have e0 : ((((cfg0.win 14).blk t).view.emb y) 0 : Nat) = min t.val 31 / 4 + (y 0).val := by blk_simp [at0_14]
  have e2 : ((((cfg0.win 14).blk t).view.emb y) 2 : Nat) = min t.val 31 % 4 * 512 + (y 2).val := by blk_simp [at0_14]
  have y0 : (y 0).val < 1 := (y 0).isLt
  rw [after0_14]
  exact congrArg rowS (row_at m c t (y 2) ((((cfg0.win 14).blk t).view.emb y) 0) ((((cfg0.win 14).blk t).view.emb y) 2) (by omega) e2)

/-! ## The two transposes after the region -/

theorem end_q (c : Dev nD) : Pipeline.afterTail₀ cfgs (dats m) 0 (V0 m) [hostOps1] c main_v7
    = specQ (m ((c : Thread nD τ).loc main_arg0)) (m ((c : Thread nD τ).loc main_arg1)) (m ((c : Thread nD τ).loc main_arg2))
      (m ((c : Thread nD τ).loc main_arg3)) := by
  have e : Pipeline.afterTail₀ cfgs (dats m) 0 (V0 m) [hostOps1] c main_v7
      = transpose S8x2048x10x128 [0, 2, 1, 3] (Pipeline.withArrays spec0 c (V0 m c) (fun w => (dats m 0 c).arrAt w cfg0.N)
        (Proc.devRef .tc (Pipeline.arrRef spec0 10))) transposes_S8x10x2048x128_S8x2048x10x128_0_2_1_3 := by
    show StableHlo.after hostOps1 (Pipeline.withArrays spec0 c (V0 m c) (fun w => (dats m 0 c).arrAt w cfg0.N)) (Proc.devRef .tc main_v7) = _
    after_results
  rw [e, Pipeline.withArrays_arr spec0 winFacts0.arr_inj, arr_q]
  funext y
  exact transpose_apply _ _ _ y (ix4 (y 0) (y 2) (y 1) (y 3))
    (fun b => match b with | ⟨0, _⟩ => rfl | ⟨1, _⟩ => rfl | ⟨2, _⟩ => rfl | ⟨3, _⟩ => rfl)

theorem end_s (c : Dev nD) : Pipeline.afterTail₀ cfgs (dats m) 0 (V0 m) [hostOps1] c main_v8
    = specS (m ((c : Thread nD τ).loc main_arg0)) := by
  have e : Pipeline.afterTail₀ cfgs (dats m) 0 (V0 m) [hostOps1] c main_v8
      = transpose S8x2048x1 [0, 2, 1] (Pipeline.withArrays spec0 c (V0 m c) (fun w => (dats m 0 c).arrAt w cfg0.N)
        (Proc.devRef .tc (Pipeline.arrRef spec0 14))) transposes_S8x1x2048_S8x2048x1_0_2_1 := by
    show StableHlo.after hostOps1 (Pipeline.withArrays spec0 c (V0 m c) (fun w => (dats m 0 c).arrAt w cfg0.N)) (Proc.devRef .tc main_v8) = _
    after_results
  rw [e, Pipeline.withArrays_arr spec0 winFacts0.arr_inj, arr_s]
  funext y
  exact transpose_apply _ _ _ y (ix3 (y 0) (y 2) (y 1))
    (fun b => match b with | ⟨0, _⟩ => rfl | ⟨1, _⟩ => rfl | ⟨2, _⟩ => rfl)

/-- The kernel ends with its results at the specified functions of its arguments. -/
theorem values : θ_run defs (onTc (τ := τ) (main (F := Ideal))) ⟨m, fun _ => 0, ρ⟩ (fun r => ∀ c : Dev nD,
      r.2.mem ((c.tc : Thread nD τ).loc main_v7) = specQ (m ((c : Thread nD τ).loc main_arg0)) (m ((c : Thread nD τ).loc main_arg1)) (m ((c : Thread nD τ).loc main_arg2)) (m ((c : Thread nD τ).loc main_arg3))
      ∧ r.2.mem ((c.tc : Thread nD τ).loc main_v6_1) = specK (m ((c : Thread nD τ).loc main_arg0)) (m ((c : Thread nD τ).loc main_arg4)) (m ((c : Thread nD τ).loc main_arg5)) (m ((c : Thread nD τ).loc main_arg6))
      ∧ r.2.mem ((c.tc : Thread nD τ).loc main_v6_2) = specK (m ((c : Thread nD τ).loc main_arg0)) (m ((c : Thread nD τ).loc main_arg7)) (m ((c : Thread nD τ).loc main_arg8)) (m ((c : Thread nD τ).loc main_arg9))
      ∧ r.2.mem ((c.tc : Thread nD τ).loc main_v6_3) = specC (m ((c : Thread nD τ).loc main_arg0))
      ∧ r.2.mem ((c.tc : Thread nD τ).loc main_v8) = specS (m ((c : Thread nD τ).loc main_arg0))) :=
  (θ_run defs _ _).mono (fun _ h c =>
    ⟨((h c).2 main_v7 (Pipeline.mem_restRefs_of main_v7 (by decide) (by decide))).trans (end_q m c),
     ((h c).1 11).trans (arr_k m c), ((h c).1 12).trans (arr_v m c), ((h c).1 13).trans (arr_c m c),
     ((h c).2 main_v8 (Pipeline.mem_restRefs_of main_v8 (by decide) (by decide))).trans (end_s m c)⟩) (run_main m ρ)

end Cert.KernelIdeal.Gen

end
-- ==== Proof.RefEnds.lean ====
/- What the reference's result arrays hold when it ends: each is the specified function of the argument arrays. -/
module

public import proofs.«01_k».proof.Proof.Gen.ReferenceIdeal.Frame
public import proofs.«01_k».proof.Proof.Spec
public import Idealize.ShloMosaic.Lib.MatmulPlain
public import Idealize.ShloMosaic.Lib.Pipeline.ValueKit

@[expose] public section

set_option maxRecDepth 16384

noncomputable section

namespace Cert.ReferenceIdeal.Gen

open Idealize.ShloMosaic hiding ix1 ix2 ix3 ix4 eq_ix1 eq_ix2 eq_ix3 eq_ix4
open Idealize.ShloMosaic.TcCoe Idealize.SL.Sem
open Idealize.ShloMosaic.ValueIdx Cert.Rows
open Idealize.ShloMosaic.Pipeline (Dat Cfg Window)

/-- The printed operations on whole vectors, at an index. -/
theorem exp2_at {s : Shape} (u : FVec Ideal s .f32) (i : s.Idx) : (exp2 u : FVec Ideal s .f32) i = pow2 (u i) := rfl
theorem subf_at {s : Shape} (u v : FVec Ideal s .f32) (i : s.Idx) : (subf u v : FVec Ideal s .f32) i = (u i - v i : EReal) := rfl
theorem mulf_at {s : Shape} (u v : FVec Ideal s .f32) (i : s.Idx) : (mulf u v : FVec Ideal s .f32) i = (u i * v i : EReal) := rfl
theorem broadcast_at {s : Shape} (x : Ideal .f32) (i : s.Idx) : (broadcast s x : FVec Ideal s .f32) i = x := rfl
/-- The element kept in the eight-bit format's range, at an index. -/
theorem kept_at {s : Shape} (lo hi : Ideal .f32) (u : FVec Ideal s .f32) (h) (i : s.Idx) :
    (truncf (F := Ideal) .fp8e4m3 (minimumf (broadcast s hi) (maximumf (broadcast s lo) u) : FVec Ideal s .f32) h : FVec Ideal s .fp8e4m3) i
      = (min hi (max lo (u i)) : EReal) := rfl

/-! ## The rows' exponents, scales and codes -/

/-- The rows' greatest magnitudes. -/
def redR (v : Vec Ideal S8x2048x5120 .bf16) : FVec Ideal S8x2048 .f32 :=
  multiReduction .maximumf [2] S8x2048 (absf (k0_pay2 (F := Ideal) v)) 0xFF800000#32 reduces_S8x2048x5120_S8x2048 (.inl rfl) rfl

theorem redR_apply (v : Vec Ideal S8x2048x5120 .bf16) (b : Fin 8) (s : Fin 2048) : redR v (ix2 b s) = amax (rowX v b s) := by
  unfold redR
  refine (Ideal.multiReduction_maximumf_single (absf (k0_pay2 (F := Ideal) v)) 0xFF800000#32 reduces_S8x2048x5120_S8x2048 _ _ (ix2 b s)).trans ?_
  rw [bot_f32]
  unfold amax
  refine congrArg (fun g => (Finset.univ : Finset (Fin 5120)).fold max ⊥ g) (funext fun k => ?_)
  refine congrArg (FloatOps.absf (F := Ideal) (φ := .f32)) ?_
  refine congrArg v ?_
  funext a; match a with | ⟨0, _⟩ => rfl | ⟨1, _⟩ => rfl | ⟨2, _⟩ => rfl

theorem colR_apply (v : Vec Ideal S8x2048x5120 .bf16) (b : Fin 8) (s : Fin 2048) :
    shapeCast S8x2048x1 (redR v) shapeCasts_S8x2048_S8x2048x1 (ix3 b s (0 : Fin 1)) = amax (rowX v b s) :=
  (shapeCast_apply (redR v) shapeCasts_S8x2048_S8x2048x1 (ix3 b s (0 : Fin 1)) (ix2 b s) (by
    rw [Shape.rowMajor_val_three, Shape.rowMajor_val_two]
    show b.val * 2048 + s.val = (b.val * 2048 + s.val) * 1 + 0
    omega)).trans (redR_apply v b s)

theorem pay3_apply (v : Vec Ideal S8x2048x5120 .bf16) (b : Fin 8) (s : Fin 2048) :
    k0_pay3 (F := Ideal) v (ix3 b s (0 : Fin 1)) = rowE (rowX v b s) := by
  show expo (shapeCast S8x2048x1 (redR v) shapeCasts_S8x2048_S8x2048x1 (ix3 b s (0 : Fin 1))) = expo (amax (rowX v b s))
  rw [colR_apply]

theorem pay4_apply (v : Vec Ideal S8x2048x5120 .bf16) (b : Fin 8) (s : Fin 2048) :
    k0_pay4 (F := Ideal) v (ix3 b s (0 : Fin 1)) = rowS (rowX v b s) := by
  show pow2 (k0_pay3 (F := Ideal) v (ix3 b s (0 : Fin 1))) = pow2 (rowE (rowX v b s))
  rw [pay3_apply]

/-- The reciprocal scales, repeated along the row. -/
def invR (v : Vec Ideal S8x2048x5120 .bf16) : FVec Ideal S8x2048x5120 .f32 :=
  broadcastTo S8x2048x5120 (exp2 (subf (broadcast S8x2048x1 (Scalar.ofBits (F := Ideal) .f32 0x00000000#32)) (k0_pay3 (F := Ideal) v)))
    broadcasts_S8x2048x1_S8x2048x5120

theorem invR_apply (v : Vec Ideal S8x2048x5120 .bf16) (b : Fin 8) (s : Fin 2048) (k : Fin 5120) :
    invR v (ix3 b s k) = pow2 ((Scalar.ofBits (F := Ideal) .f32 0x00000000#32 : EReal) - rowE (rowX v b s)) := by
  unfold invR
  refine (broadcastTo_apply _ _ _ (ix3 b s (0 : Fin 1)) (fun a => match a with | ⟨0, _⟩ => rfl | ⟨1, _⟩ => rfl | ⟨2, _⟩ => rfl)).trans ?_
  rw [exp2_at, subf_at, broadcast_at, pay3_apply]

theorem pay2_apply (v : Vec Ideal S8x2048x5120 .bf16) (b : Fin 8) (s : Fin 2048) (k : Fin 5120) :
    k0_pay2 (F := Ideal) v (ix3 b s k) = rowX v b s k := rfl

theorem pay5_eq (v : Vec Ideal S8x2048x5120 .bf16) : k0_pay5 (F := Ideal) v
    = truncf (F := Ideal) .fp8e4m3 (minimumf (broadcast S8x2048x5120 (Scalar.ofBits (F := Ideal) .f32 0x43E00000#32))
      (maximumf (broadcast S8x2048x5120 (Scalar.ofBits (F := Ideal) .f32 0xC3E00000#32)) (mulf (k0_pay2 (F := Ideal) v) (invR v)))) bitsLt_fp8e4m3_f32 := by
  unfold k0_pay5 invR
  exact rfl

theorem pay5_apply (v : Vec Ideal S8x2048x5120 .bf16) (b : Fin 8) (s : Fin 2048) (k : Fin 5120) :
    k0_pay5 (F := Ideal) v (ix3 b s k) = rowC (rowX v b s) k := by
  rw [pay5_eq, kept_at, mulf_at, invR_apply, pay2_apply]
  unfold rowC clip
  exact rfl

/-! ## The projections -/

/-- Row `s` of batch `b` among all rows. -/
def flat (b : Fin 8) (s : Fin 2048) : Fin 16384 := ⟨b.val * 2048 + s.val, by omega⟩

theorem codes_flat (v : Vec Ideal S8x2048x5120 .bf16) (b : Fin 8) (s : Fin 2048) (k : Fin 5120) :
    shapeCast S16384x5120 (k0_pay5 (F := Ideal) v) shapeCasts_S8x2048x5120_S16384x5120 (ix2 (flat b s) k) = rowC (rowX v b s) k :=
  (shapeCast_apply (k0_pay5 (F := Ideal) v) shapeCasts_S8x2048x5120_S16384x5120 (ix2 (flat b s) k) (ix3 b s k) (by
    rw [Shape.rowMajor_val_three, Shape.rowMajor_val_two]; rfl)).trans (pay5_apply v b s k)

/-- The products of codes and weights, 1280 columns -/
theorem prod_q (v : Vec Ideal S8x2048x5120 .bf16) (w : Vec Ideal S5120x1280 .fp8e4m3) (b : Fin 8) (s : Fin 2048) (q : Fin 1280) :
    k0_pay6 (F := Ideal) v w (ix2 (flat b s) q)
      = (Scalar.ofBits (F := Ideal) .f32 0x00000000#32 : EReal) + ∑ k : Fin 5120, rowC (rowX v b s) k * w (ix2 k q) := by
  refine (Ideal.matmul_plain_apply (M := 16384) (K := 5120) (N := 1280) (φ₁ := .fp8e4m3) (φ₂ := .fp8e4m3) none
    (shapeCast S16384x5120 (k0_pay5 (F := Ideal) v) shapeCasts_S8x2048x5120_S16384x5120) w
    (constant (F := Ideal) S16384x1280 .f32 0x00000000#32) (flat b s) q).trans ?_
  refine congrArg (fun z : EReal => (Scalar.ofBits (F := Ideal) .f32 0x00000000#32 : EReal) + z) (Finset.sum_congr rfl fun k _ => ?_)
  exact congrArg (fun z : EReal => z * w (ix2 k q)) (codes_flat v b s k)

/-- or 256. -/
def prodK (v : Vec Ideal S8x2048x5120 .bf16) (w : Vec Ideal S5120x256 .fp8e4m3) : FVec Ideal S16384x256 .f32 :=
  matmul (F := Ideal) (φ₁ := .fp8e4m3) (φ₂ := .fp8e4m3) dot_S16384x5120_S5120x256_S16384x256_1_0_0_1_n_n none
    (shapeCast S16384x5120 (k0_pay5 (F := Ideal) v) shapeCasts_S8x2048x5120_S16384x5120) w (constant S16384x256 .f32 0x00000000#32)

theorem prod_k (v : Vec Ideal S8x2048x5120 .bf16) (w : Vec Ideal S5120x256 .fp8e4m3) (b : Fin 8) (s : Fin 2048) (q : Fin 256) :
    prodK v w (ix2 (flat b s) q)
      = (Scalar.ofBits (F := Ideal) .f32 0x00000000#32 : EReal) + ∑ k : Fin 5120, rowC (rowX v b s) k * w (ix2 k q) := by
  refine (Ideal.matmul_plain_apply (M := 16384) (K := 5120) (N := 256) (φ₁ := .fp8e4m3) (φ₂ := .fp8e4m3) none
    (shapeCast S16384x5120 (k0_pay5 (F := Ideal) v) shapeCasts_S8x2048x5120_S16384x5120) w
    (constant (F := Ideal) S16384x256 .f32 0x00000000#32) (flat b s) q).trans ?_
  refine congrArg (fun z : EReal => (Scalar.ofBits (F := Ideal) .f32 0x00000000#32 : EReal) + z) (Finset.sum_congr rfl fun k _ => ?_)
  exact congrArg (fun z : EReal => z * w (ix2 k q)) (codes_flat v b s k)

/-- The products scaled by the rows and the columns, plus the biases, at a column. -/
theorem scaled {n : Nat} (r : FVec Ideal S8x2048x1 .f32) (p : FVec Ideal (⟨2, ![16384, n]⟩ : Shape) .f32)
    (w : FVec Ideal (⟨1, ![n]⟩ : Shape) .f32) (z : FVec Ideal (⟨1, ![n]⟩ : Shape) .bf16) (h1 h2 h3 h4 h5 h6)
    (b : Fin 8) (s : Fin 2048) (q : Fin n) :
    (truncf (F := Ideal) .bf16 (addf (mulf (mulf (shapeCast (⟨3, ![8, 2048, n]⟩ : Shape) p h1) (broadcastTo (⟨3, ![8, 2048, n]⟩ : Shape) r h2))
        (broadcastTo (⟨3, ![8, 2048, n]⟩ : Shape) (shapeCast (⟨3, ![1, 1, n]⟩ : Shape) w h3) h4))
      (broadcastTo (⟨3, ![8, 2048, n]⟩ : Shape) (shapeCast (⟨3, ![1, 1, n]⟩ : Shape) (extf (F := Ideal) .f32 z h5) h3) h4)) h6
        : FVec Ideal (⟨3, ![8, 2048, n]⟩ : Shape) .bf16) (ix3 b s q)
      = ((p (ix2 (flat b s) q) : EReal) * r (ix3 b s (0 : Fin 1)) * w (ix1 q) + z (ix1 q) : EReal) := by
  have hq := q.isLt
  have e1 : shapeCast (⟨3, ![8, 2048, n]⟩ : Shape) p h1 (ix3 b s q) = p (ix2 (flat b s) q) :=
    shapeCast_apply p h1 _ _ (by rw [Shape.rowMajor_val_three, Shape.rowMajor_val_two]; rfl)
  have e2 : broadcastTo (⟨3, ![8, 2048, n]⟩ : Shape) r h2 (ix3 b s q) = r (ix3 b s (0 : Fin 1)) :=
    broadcastTo_apply _ _ _ _ (fun a => match a with | ⟨0, _⟩ => rfl | ⟨1, _⟩ => rfl | ⟨2, _⟩ => rfl)
  have eb : ∀ u : FVec Ideal (⟨1, ![n]⟩ : Shape) .f32,
      broadcastTo (⟨3, ![8, 2048, n]⟩ : Shape) (shapeCast (⟨3, ![1, 1, n]⟩ : Shape) u h3) h4 (ix3 b s q) = u (ix1 q) := fun u =>
    (broadcastTo_apply _ _ _ (ix3 (0 : Fin 1) (0 : Fin 1) q) (fun a => match a with
      | ⟨0, _⟩ => rfl | ⟨1, _⟩ => rfl | ⟨2, _⟩ => by
        show q.val = if n = 1 then 0 else q.val
        split <;> omega)).trans
    (shapeCast_apply u h3 _ _ (by
      rw [Shape.rowMajor_val_three, Shape.rowMajor_val_one]
      show q.val = (0 * 1 + 0) * n + q.val
      omega))
  have e : ((shapeCast (⟨3, ![8, 2048, n]⟩ : Shape) p h1 (ix3 b s q) : EReal) * broadcastTo (⟨3, ![8, 2048, n]⟩ : Shape) r h2 (ix3 b s q)
      * broadcastTo (⟨3, ![8, 2048, n]⟩ : Shape) (shapeCast (⟨3, ![1, 1, n]⟩ : Shape) w h3) h4 (ix3 b s q)
      + broadcastTo (⟨3, ![8, 2048, n]⟩ : Shape) (shapeCast (⟨3, ![1, 1, n]⟩ : Shape) (extf (F := Ideal) .f32 z h5) h3) h4 (ix3 b s q) : EReal)
      = ((p (ix2 (flat b s) q) : EReal) * r (ix3 b s (0 : Fin 1)) * w (ix1 q) + z (ix1 q) : EReal) := by
    rw [e1, e2, eb w, eb]; rfl
  exact e

theorem pay7_apply (v : Vec Ideal S8x2048x5120 .bf16) (w : Vec Ideal S5120x1280 .fp8e4m3) (S : Vec Ideal S1280 .f32) (B : Vec Ideal S1280 .bf16)
    (b : Fin 8) (s : Fin 2048) (q : Fin 1280) :
    k0_pay7 (F := Ideal) (k0_pay4 (F := Ideal) v) (k0_pay6 (F := Ideal) v w) S B (ix3 b s q) = projAt 1280 v w S B b s q := by
  unfold k0_pay7
  refine (scaled (n := 1280) (k0_pay4 (F := Ideal) v) (k0_pay6 (F := Ideal) v w) S B _ _ _ _ _ _ b s q).trans ?_
  rw [prod_q, pay4_apply]; rfl

theorem pay8_apply (v : Vec Ideal S8x2048x5120 .bf16) (w : Vec Ideal S5120x256 .fp8e4m3) (S : Vec Ideal S256 .f32) (B : Vec Ideal S256 .bf16)
    (b : Fin 8) (s : Fin 2048) (q : Fin 256) :
    k0_pay8 (F := Ideal) (k0_pay4 (F := Ideal) v) (k0_pay5 (F := Ideal) v) w S B (ix3 b s q) = projAt 256 v w S B b s q := by
  unfold k0_pay8
  refine (scaled (n := 256) (k0_pay4 (F := Ideal) v) (prodK v w) S B _ _ _ _ _ _ b s q).trans ?_
  rw [prod_k, pay4_apply]; rfl

/-- The third projection is computed as the second. -/
theorem pay1_eq (v : Vec Ideal S8x2048x5120 .bf16) (w : Vec Ideal S5120x256 .fp8e4m3) (S : Vec Ideal S256 .f32) (B : Vec Ideal S256 .bf16) :
    k0_pay1 (F := Ideal) (k0_pay9 (F := Ideal) (k0_pay4 (F := Ideal) v) (k0_pay5 (F := Ideal) v) w S) B
      = k0_pay8 (F := Ideal) (k0_pay4 (F := Ideal) v) (k0_pay5 (F := Ideal) v) w S B := rfl

/-! ## What the outputs' buffers hold after the one point -/

section
variable (x0 : Vec Ideal S8x2048x5120 .bf16) (x1 : Vec Ideal S5120x1280 .fp8e4m3) (x2 : Vec Ideal S1280 .f32) (x3 : Vec Ideal S1280 .bf16)
  (x4 : Vec Ideal S5120x256 .fp8e4m3) (x5 : Vec Ideal S256 .f32) (x6 : Vec Ideal S256 .bf16)
  (x7 : Vec Ideal S5120x256 .fp8e4m3) (x8 : Vec Ideal S256 .f32) (x9 : Vec Ideal S256 .bf16)

theorem zero1 (a : Fin 1) : (![0] : Fin 1 → Nat) a = 0 := match a with | ⟨0, _⟩ => rfl
theorem zero2 (a : Fin 2) : (![0, 0] : Fin 2 → Nat) a = 0 := match a with | ⟨0, _⟩ => rfl | ⟨1, _⟩ => rfl
theorem zero3 (a : Fin 3) : (![0, 0, 0] : Fin 3 → Nat) a = 0 := match a with | ⟨0, _⟩ => rfl | ⟨1, _⟩ => rfl | ⟨2, _⟩ => rfl

theorem ld_0 : View.ld (Val := Elt Ideal) x0 r0_0 = x0 := View.ld_unit_lit _ x0 zero3
theorem ld_1 : View.ld (Val := Elt Ideal) x1 r0_2 = x1 := View.ld_unit_lit _ x1 zero2
theorem ld_3 {e : EltTy} (x : Vec Ideal S1280 e) : View.ld (Val := Elt Ideal) x r0_3 = x := View.ld_unit_lit _ x zero1
theorem ld_5 {e : EltTy} (x : Vec Ideal S5120x256 e) : View.ld (Val := Elt Ideal) x r0_5 = x := View.ld_unit_lit _ x zero2
theorem ld_6 {e : EltTy} (x : Vec Ideal S256 e) : View.ld (Val := Elt Ideal) x r0_6 = x := View.ld_unit_lit _ x zero1

theorem out_q : out0_10 (F := Ideal) x0 x1 x2 x3 x4 x5 x6 x7 x8 x9
    = k0_pay7 (F := Ideal) (k0_pay4 (F := Ideal) x0) (k0_pay6 (F := Ideal) x0 x1) x2 x3 := by
  unfold out0_10 k0_pay10
  refine (View.canon_cons_unit_lit _ _ _ zero3).trans ?_
  rw [ld_0, ld_1, ld_3, ld_3]
theorem out_k : out0_11 (F := Ideal) x0 x1 x2 x3 x4 x5 x6 x7 x8 x9
    = k0_pay8 (F := Ideal) (k0_pay4 (F := Ideal) x0) (k0_pay5 (F := Ideal) x0) x4 x5 x6 := by
  unfold out0_11 k0_pay11 k0_pay10
  refine (View.canon_cons_unit_lit _ _ _ zero3).trans ?_
  rw [ld_0, ld_5, ld_6, ld_6]
theorem out_v : out0_12 (F := Ideal) x0 x1 x2 x3 x4 x5 x6 x7 x8 x9
    = k0_pay8 (F := Ideal) (k0_pay4 (F := Ideal) x0) (k0_pay5 (F := Ideal) x0) x7 x8 x9 := by
  unfold out0_12 k0_pay11 k0_pay10
  refine (View.canon_cons_unit_lit _ _ _ zero3).trans ?_
  rw [ld_0, ld_5, ld_6, ld_6]
  exact pay1_eq x0 x7 x8 x9
theorem out_c : out0_13 (F := Ideal) x0 x1 x2 x3 x4 x5 x6 x7 x8 x9 = k0_pay5 (F := Ideal) x0 := by
  unfold out0_13
  refine (View.canon_cons_unit_lit _ _ _ zero3).trans ?_
  rw [ld_0]
theorem out_s : out0_14 (F := Ideal) x0 x1 x2 x3 x4 x5 x6 x7 x8 x9 = k0_pay4 (F := Ideal) x0 := by
  unfold out0_14
  refine (View.canon_cons_unit_lit _ _ _ zero3).trans ?_
  rw [ld_0]
end

/-! ## The arrays when the region ends -/

variable (m : (ℓ : Loc nD τ sig) → Buf (Elt Ideal) ℓ) (ρ : Dev nD → PrngReg)

/-- Every window's block is its whole array. -/
theorem at0 : ∀ t : Fin cfg0.N, win0_0.index t = ![0, 0, 0] ∧ win0_1.index t = ![0, 0] ∧ win0_2.index t = ![0] ∧ win0_3.index t = ![0] ∧ win0_4.index t = ![0, 0] ∧ win0_5.index t = ![0] ∧ win0_6.index t = ![0] ∧ win0_7.index t = ![0, 0] ∧ win0_8.index t = ![0] ∧ win0_9.index t = ![0] ∧ win0_10.index t = ![0, 0, 0] ∧ win0_11.index t = ![0, 0, 0] ∧ win0_12.index t = ![0, 0, 0] ∧ win0_13.index t = ![0, 0, 0] ∧ win0_14.index t = ![0, 0, 0] :=
  (by decide +kernel : ∀ t : Fin grid0.N, _)

theorem blk_0 (c : Dev nD) (t : Fin cfg0.N) : iblk (F := Ideal) m c 0 t = m ((c : Thread nD τ).loc main_arg0) := by
  funext y
  show m ((c : Thread nD τ).loc main_arg0) (((cfg0.win 0).blk t).view.emb y) = _
  refine congrArg _ (funext fun a => Fin.ext ?_)
  match a with
  | ⟨0, _⟩ => blk_simp [(at0 t).1]
  | ⟨1, _⟩ => blk_simp [(at0 t).1]
  | ⟨2, _⟩ => blk_simp [(at0 t).1]
theorem blk_1 (c : Dev nD) (t : Fin cfg0.N) : iblk (F := Ideal) m c 1 t = m ((c : Thread nD τ).loc main_arg1) := by
  funext y
  show m ((c : Thread nD τ).loc main_arg1) (((cfg0.win 1).blk t).view.emb y) = _
  refine congrArg _ (funext fun a => Fin.ext ?_)
  match a with
  | ⟨0, _⟩ => blk_simp [(at0 t).2.1]
  | ⟨1, _⟩ => blk_simp [(at0 t).2.1]
theorem blk_2 (c : Dev nD) (t : Fin cfg0.N) : iblk (F := Ideal) m c 2 t = m ((c : Thread nD τ).loc main_arg2) := by
  funext y
  show m ((c : Thread nD τ).loc main_arg2) (((cfg0.win 2).blk t).view.emb y) = _
  refine congrArg _ (funext fun a => Fin.ext ?_)
  match a with
  | ⟨0, _⟩ => blk_simp [(at0 t).2.2.1]
theorem blk_3 (c : Dev nD) (t : Fin cfg0.N) : iblk (F := Ideal) m c 3 t = m ((c : Thread nD τ).loc main_arg3) := by
  funext y
  show m ((c : Thread nD τ).loc main_arg3) (((cfg0.win 3).blk t).view.emb y) = _
  refine congrArg _ (funext fun a => Fin.ext ?_)
  match a with
  | ⟨0, _⟩ => blk_simp [(at0 t).2.2.2.1]
theorem blk_4 (c : Dev nD) (t : Fin cfg0.N) : iblk (F := Ideal) m c 4 t = m ((c : Thread nD τ).loc main_arg4) := by
  funext y
  show m ((c : Thread nD τ).loc main_arg4) (((cfg0.win 4).blk t).view.emb y) = _
  refine congrArg _ (funext fun a => Fin.ext ?_)
  match a with
  | ⟨0, _⟩ => blk_simp [(at0 t).2.2.2.2.1]
  | ⟨1, _⟩ => blk_simp [(at0 t).2.2.2.2.1]
theorem blk_5 (c : Dev nD) (t : Fin cfg0.N) : iblk (F := Ideal) m c 5 t = m ((c : Thread nD τ).loc main_arg5) := by
  funext y
  show m ((c : Thread nD τ).loc main_arg5) (((cfg0.win 5).blk t).view.emb y) = _
  refine congrArg _ (funext fun a => Fin.ext ?_)
  match a with
  | ⟨0, _⟩ => blk_simp [(at0 t).2.2.2.2.2.1]
theorem blk_6 (c : Dev nD) (t : Fin cfg0.N) : iblk (F := Ideal) m c 6 t = m ((c : Thread nD τ).loc main_arg6) := by
  funext y
  show m ((c : Thread nD τ).loc main_arg6) (((cfg0.win 6).blk t).view.emb y) = _
  refine congrArg _ (funext fun a => Fin.ext ?_)
  match a with
  | ⟨0, _⟩ => blk_simp [(at0 t).2.2.2.2.2.2.1]
theorem blk_7 (c : Dev nD) (t : Fin cfg0.N) : iblk (F := Ideal) m c 7 t = m ((c : Thread nD τ).loc main_arg7) := by
  funext y
  show m ((c : Thread nD τ).loc main_arg7) (((cfg0.win 7).blk t).view.emb y) = _
  refine congrArg _ (funext fun a => Fin.ext ?_)
  match a with
  | ⟨0, _⟩ => blk_simp [(at0 t).2.2.2.2.2.2.2.1]
  | ⟨1, _⟩ => blk_simp [(at0 t).2.2.2.2.2.2.2.1]
theorem blk_8 (c : Dev nD) (t : Fin cfg0.N) : iblk (F := Ideal) m c 8 t = m ((c : Thread nD τ).loc main_arg8) := by
  funext y
  show m ((c : Thread nD τ).loc main_arg8) (((cfg0.win 8).blk t).view.emb y) = _
  refine congrArg _ (funext fun a => Fin.ext ?_)
  match a with
  | ⟨0, _⟩ => blk_simp [(at0 t).2.2.2.2.2.2.2.2.1]
theorem blk_9 (c : Dev nD) (t : Fin cfg0.N) : iblk (F := Ideal) m c 9 t = m ((c : Thread nD τ).loc main_arg9) := by
  funext y
  show m ((c : Thread nD τ).loc main_arg9) (((cfg0.win 9).blk t).view.emb y) = _
  refine congrArg _ (funext fun a => Fin.ext ?_)
  match a with
  | ⟨0, _⟩ => blk_simp [(at0 t).2.2.2.2.2.2.2.2.2.1]
theorem emb_10 (t : Fin cfg0.N) (y) : ((cfg0.win 10).blk t).view.emb y = y := by
  funext a
  refine Fin.ext ?_
  match a with
  | ⟨0, _⟩ => blk_simp [(at0 t).2.2.2.2.2.2.2.2.2.2.1]
  | ⟨1, _⟩ => blk_simp [(at0 t).2.2.2.2.2.2.2.2.2.2.1]
  | ⟨2, _⟩ => blk_simp [(at0 t).2.2.2.2.2.2.2.2.2.2.1]
theorem emb_11 (t : Fin cfg0.N) (y) : ((cfg0.win 11).blk t).view.emb y = y := by
  funext a
  refine Fin.ext ?_
  match a with
  | ⟨0, _⟩ => blk_simp [(at0 t).2.2.2.2.2.2.2.2.2.2.2.1]
  | ⟨1, _⟩ => blk_simp [(at0 t).2.2.2.2.2.2.2.2.2.2.2.1]
  | ⟨2, _⟩ => blk_simp [(at0 t).2.2.2.2.2.2.2.2.2.2.2.1]
theorem emb_12 (t : Fin cfg0.N) (y) : ((cfg0.win 12).blk t).view.emb y = y := by
  funext a
  refine Fin.ext ?_
  match a with
  | ⟨0, _⟩ => blk_simp [(at0 t).2.2.2.2.2.2.2.2.2.2.2.2.1]
  | ⟨1, _⟩ => blk_simp [(at0 t).2.2.2.2.2.2.2.2.2.2.2.2.1]
  | ⟨2, _⟩ => blk_simp [(at0 t).2.2.2.2.2.2.2.2.2.2.2.2.1]
theorem emb_13 (t : Fin cfg0.N) (y) : ((cfg0.win 13).blk t).view.emb y = y := by
  funext a
  refine Fin.ext ?_
  match a with
  | ⟨0, _⟩ => blk_simp [(at0 t).2.2.2.2.2.2.2.2.2.2.2.2.2.1]
  | ⟨1, _⟩ => blk_simp [(at0 t).2.2.2.2.2.2.2.2.2.2.2.2.2.1]
  | ⟨2, _⟩ => blk_simp [(at0 t).2.2.2.2.2.2.2.2.2.2.2.2.2.1]
theorem emb_14 (t : Fin cfg0.N) (y) : ((cfg0.win 14).blk t).view.emb y = y := by
  funext a
  refine Fin.ext ?_
  match a with
  | ⟨0, _⟩ => blk_simp [(at0 t).2.2.2.2.2.2.2.2.2.2.2.2.2.2]
  | ⟨1, _⟩ => blk_simp [(at0 t).2.2.2.2.2.2.2.2.2.2.2.2.2.2]
  | ⟨2, _⟩ => blk_simp [(at0 t).2.2.2.2.2.2.2.2.2.2.2.2.2.2]

/-- The arrays are what the point left. -/
theorem arr_q (c : Dev nD) : (dats (F := Ideal) m 0 c).arrAt 10 cfg0.N
    = k0_pay7 (F := Ideal) (k0_pay4 (F := Ideal) (m ((c : Thread nD τ).loc main_arg0))) (k0_pay6 (F := Ideal) (m ((c : Thread nD τ).loc main_arg0)) (m ((c : Thread nD τ).loc main_arg1))) (m ((c : Thread nD τ).loc main_arg2)) (m ((c : Thread nD τ).loc main_arg3)) := by
  refine (dats (F := Ideal) m 0 c).arrAt_eq_of_covers 10 _ (by decide +kernel) fun t hf y => ?_
  rw [after0_10, emb_10, out_q, blk_0, blk_1, blk_2, blk_3]
  generalize k0_pay7 (F := Ideal) (k0_pay4 (F := Ideal) (m ((c : Thread nD τ).loc main_arg0))) (k0_pay6 (F := Ideal) (m ((c : Thread nD τ).loc main_arg0)) (m ((c : Thread nD τ).loc main_arg1))) (m ((c : Thread nD τ).loc main_arg2)) (m ((c : Thread nD τ).loc main_arg3)) = f
  exact rfl

theorem arr_k (c : Dev nD) : (dats (F := Ideal) m 0 c).arrAt 11 cfg0.N
    = k0_pay8 (F := Ideal) (k0_pay4 (F := Ideal) (m ((c : Thread nD τ).loc main_arg0))) (k0_pay5 (F := Ideal) (m ((c : Thread nD τ).loc main_arg0))) (m ((c : Thread nD τ).loc main_arg4)) (m ((c : Thread nD τ).loc main_arg5)) (m ((c : Thread nD τ).loc main_arg6)) := by
  refine (dats (F := Ideal) m 0 c).arrAt_eq_of_covers 11 _ (by decide +kernel) fun t hf y => ?_
  rw [after0_11, emb_11, out_k, blk_0, blk_4, blk_5, blk_6]
  generalize k0_pay8 (F := Ideal) (k0_pay4 (F := Ideal) (m ((c : Thread nD τ).loc main_arg0))) (k0_pay5 (F := Ideal) (m ((c : Thread nD τ).loc main_arg0))) (m ((c : Thread nD τ).loc main_arg4)) (m ((c : Thread nD τ).loc main_arg5)) (m ((c : Thread nD τ).loc main_arg6)) = f
  exact rfl

theorem arr_v (c : Dev nD) : (dats (F := Ideal) m 0 c).arrAt 12 cfg0.N
    = k0_pay8 (F := Ideal) (k0_pay4 (F := Ideal) (m ((c : Thread nD τ).loc main_arg0))) (k0_pay5 (F := Ideal) (m ((c : Thread nD τ).loc main_arg0))) (m ((c : Thread nD τ).loc main_arg7)) (m ((c : Thread nD τ).loc main_arg8)) (m ((c : Thread nD τ).loc main_arg9)) := by
  refine (dats (F := Ideal) m 0 c).arrAt_eq_of_covers 12 _ (by decide +kernel) fun t hf y => ?_
  rw [after0_12, emb_12, out_v, blk_0, blk_7, blk_8, blk_9]
  generalize k0_pay8 (F := Ideal) (k0_pay4 (F := Ideal) (m ((c : Thread nD τ).loc main_arg0))) (k0_pay5 (F := Ideal) (m ((c : Thread nD τ).loc main_arg0))) (m ((c : Thread nD τ).loc main_arg7)) (m ((c : Thread nD τ).loc main_arg8)) (m ((c : Thread nD τ).loc main_arg9)) = f
  exact rfl

theorem arr_c (c : Dev nD) : (dats (F := Ideal) m 0 c).arrAt 13 cfg0.N
    = k0_pay5 (F := Ideal) (m ((c : Thread nD τ).loc main_arg0)) := by
  refine (dats (F := Ideal) m 0 c).arrAt_eq_of_covers 13 _ (by decide +kernel) fun t hf y => ?_
  rw [after0_13, emb_13, out_c, blk_0]
  generalize k0_pay5 (F := Ideal) (m ((c : Thread nD τ).loc main_arg0)) = f
  exact rfl

theorem arr_of_s (c : Dev nD) (f : Vec Ideal S8x2048x1 .f32) (h : ∀ t : Fin cfg0.N, (dats (F := Ideal) m 0 c).after 14 t = f) :
    (dats (F := Ideal) m 0 c).arrAt 14 cfg0.N = f := by
  refine (dats (F := Ideal) m 0 c).arrAt_eq_of_covers 14 f (by decide +kernel) fun t hf y => ?_
  rw [h, emb_14]
  exact rfl

theorem after_s (c : Dev nD) (t : Fin cfg0.N) :
    (dats (F := Ideal) m 0 c).after 14 t = k0_pay4 (F := Ideal) (m ((c : Thread nD τ).loc main_arg0)) := by
  rw [after0_14, out_s, blk_0]

theorem arr_s (c : Dev nD) : (dats (F := Ideal) m 0 c).arrAt 14 cfg0.N
    = k0_pay4 (F := Ideal) (m ((c : Thread nD τ).loc main_arg0)) := arr_of_s m c _ (after_s m c)

theorem codes_eq (v : Vec Ideal S8x2048x5120 .bf16) : k0_pay5 (F := Ideal) v = specC v := by
  funext y
  exact (congrArg (k0_pay5 (F := Ideal) v) (eq_ix3 y)).trans (pay5_apply v (y 0) (y 1) (y 2))

theorem scales_eq (v : Vec Ideal S8x2048x5120 .bf16) : k0_pay4 (F := Ideal) v = specS v := by
  funext y
  have h : (y : S8x2048x1.Idx) = ix3 (y 0) (y 1) (0 : Fin 1) :=
    (eq_ix3 y).trans (congrArg (fun u : Fin 1 => ix3 (y 0) (y 1) u) (Subsingleton.elim _ _))
  exact (congrArg (k0_pay4 (F := Ideal) v) h).trans (pay4_apply v (y 0) (y 1))

/-- The ten-head projection with its columns parted into heads, -/
theorem heads_q (v : Vec Ideal S8x2048x5120 .bf16) (w : Vec Ideal S5120x1280 .fp8e4m3) (S : Vec Ideal S1280 .f32) (B : Vec Ideal S1280 .bf16) :
    shapeCast S8x2048x10x128 (k0_pay7 (F := Ideal) (k0_pay4 (F := Ideal) v) (k0_pay6 (F := Ideal) v w) S B)
      shapeCasts_S8x2048x1280_S8x2048x10x128 = specQ v w S B := by
  funext y
  refine (shapeCast_apply _ shapeCasts_S8x2048x1280_S8x2048x10x128 y (ix3 (y 0) (y 1) (headCol 1280 (H := 10) rfl (y 2) (y 3))) ?_).trans
    (pay7_apply v w S B (y 0) (y 1) _)
  rw [Shape.rowMajor_val_three, Shape.rowMajor_val_four]
  show ((y 0).val * 2048 + (y 1).val) * 1280 + (128 * (y 2).val + (y 3).val)
    = (((y 0).val * 2048 + (y 1).val) * 10 + (y 2).val) * 128 + (y 3).val
  omega

/-- and a two-head one. -/
theorem heads_k (v : Vec Ideal S8x2048x5120 .bf16) (w : Vec Ideal S5120x256 .fp8e4m3) (S : Vec Ideal S256 .f32) (B : Vec Ideal S256 .bf16) :
    shapeCast S8x2048x2x128 (k0_pay8 (F := Ideal) (k0_pay4 (F := Ideal) v) (k0_pay5 (F := Ideal) v) w S B)
      shapeCasts_S8x2048x256_S8x2048x2x128 = specK v w S B := by
  funext y
  refine (shapeCast_apply _ shapeCasts_S8x2048x256_S8x2048x2x128 y (ix3 (y 0) (y 1) (headCol 256 (H := 2) rfl (y 2) (y 3))) ?_).trans
    (pay8_apply v w S B (y 0) (y 1) _)
  rw [Shape.rowMajor_val_three, Shape.rowMajor_val_four]
  show ((y 0).val * 2048 + (y 1).val) * 256 + (128 * (y 2).val + (y 3).val)
    = (((y 0).val * 2048 + (y 1).val) * 2 + (y 2).val) * 128 + (y 3).val
  omega

/-! ## The three reshapes after the region -/

theorem end_q (c : Dev nD) : Pipeline.afterTail₀ cfgs (dats (F := Ideal) m) 0 (V0 m) [hostOps1] c main_v1
    = specQ (m ((c : Thread nD τ).loc main_arg0)) (m ((c : Thread nD τ).loc main_arg1)) (m ((c : Thread nD τ).loc main_arg2)) (m ((c : Thread nD τ).loc main_arg3)) := by
  have e : Pipeline.afterTail₀ cfgs (dats (F := Ideal) m) 0 (V0 m) [hostOps1] c main_v1
      = shapeCast S8x2048x10x128 (Pipeline.withArrays spec0 c (V0 m c) (fun w => (dats (F := Ideal) m 0 c).arrAt w cfg0.N)
        (Proc.devRef .tc (Pipeline.arrRef spec0 10))) shapeCasts_S8x2048x1280_S8x2048x10x128 := by
    show StableHlo.after hostOps1 (Pipeline.withArrays spec0 c (V0 m c) (fun w => (dats (F := Ideal) m 0 c).arrAt w cfg0.N)) (Proc.devRef .tc main_v1) = _
    after_results
    rfl
  rw [e, Pipeline.withArrays_arr spec0 winFacts0.arr_inj, arr_q]
  exact heads_q _ _ _ _

theorem end_k (c : Dev nD) : Pipeline.afterTail₀ cfgs (dats (F := Ideal) m) 0 (V0 m) [hostOps1] c main_v2
    = specK (m ((c : Thread nD τ).loc main_arg0)) (m ((c : Thread nD τ).loc main_arg4)) (m ((c : Thread nD τ).loc main_arg5)) (m ((c : Thread nD τ).loc main_arg6)) := by
  have e : Pipeline.afterTail₀ cfgs (dats (F := Ideal) m) 0 (V0 m) [hostOps1] c main_v2
      = shapeCast S8x2048x2x128 (Pipeline.withArrays spec0 c (V0 m c) (fun w => (dats (F := Ideal) m 0 c).arrAt w cfg0.N)
        (Proc.devRef .tc (Pipeline.arrRef spec0 11))) shapeCasts_S8x2048x256_S8x2048x2x128 := by
    show StableHlo.after hostOps1 (Pipeline.withArrays spec0 c (V0 m c) (fun w => (dats (F := Ideal) m 0 c).arrAt w cfg0.N)) (Proc.devRef .tc main_v2) = _
    after_results
    rfl
  rw [e, Pipeline.withArrays_arr spec0 winFacts0.arr_inj, arr_k]
  exact heads_k _ _ _ _

theorem end_v (c : Dev nD) : Pipeline.afterTail₀ cfgs (dats (F := Ideal) m) 0 (V0 m) [hostOps1] c main_v3
    = specK (m ((c : Thread nD τ).loc main_arg0)) (m ((c : Thread nD τ).loc main_arg7)) (m ((c : Thread nD τ).loc main_arg8)) (m ((c : Thread nD τ).loc main_arg9)) := by
  have e : Pipeline.afterTail₀ cfgs (dats (F := Ideal) m) 0 (V0 m) [hostOps1] c main_v3
      = shapeCast S8x2048x2x128 (Pipeline.withArrays spec0 c (V0 m c) (fun w => (dats (F := Ideal) m 0 c).arrAt w cfg0.N)
        (Proc.devRef .tc (Pipeline.arrRef spec0 12))) shapeCasts_S8x2048x256_S8x2048x2x128 := by
    show StableHlo.after hostOps1 (Pipeline.withArrays spec0 c (V0 m c) (fun w => (dats (F := Ideal) m 0 c).arrAt w cfg0.N)) (Proc.devRef .tc main_v3) = _
    after_results
    rfl
  rw [e, Pipeline.withArrays_arr spec0 winFacts0.arr_inj, arr_v]
  exact heads_k _ _ _ _

/-- The reference ends with its results at the specified functions of its arguments. -/
theorem values : θ_run defs (onTc (τ := τ) (main (F := Ideal))) ⟨m, fun _ => 0, ρ⟩ (fun r => ∀ c : Dev nD,
      r.2.mem ((c.tc : Thread nD τ).loc main_v1) = specQ (m ((c : Thread nD τ).loc main_arg0)) (m ((c : Thread nD τ).loc main_arg1)) (m ((c : Thread nD τ).loc main_arg2)) (m ((c : Thread nD τ).loc main_arg3))
      ∧ r.2.mem ((c.tc : Thread nD τ).loc main_v2) = specK (m ((c : Thread nD τ).loc main_arg0)) (m ((c : Thread nD τ).loc main_arg4)) (m ((c : Thread nD τ).loc main_arg5)) (m ((c : Thread nD τ).loc main_arg6))
      ∧ r.2.mem ((c.tc : Thread nD τ).loc main_v3) = specK (m ((c : Thread nD τ).loc main_arg0)) (m ((c : Thread nD τ).loc main_arg7)) (m ((c : Thread nD τ).loc main_arg8)) (m ((c : Thread nD τ).loc main_arg9))
      ∧ r.2.mem ((c.tc : Thread nD τ).loc main_v0_3) = specC (m ((c : Thread nD τ).loc main_arg0))
      ∧ r.2.mem ((c.tc : Thread nD τ).loc main_v0_4) = specS (m ((c : Thread nD τ).loc main_arg0))) :=
  (θ_run defs _ _).mono (fun _ h c =>
    ⟨((h c).2 main_v1 (Pipeline.mem_restRefs_of main_v1 (by decide) (by decide))).trans (end_q m c),
     ((h c).2 main_v2 (Pipeline.mem_restRefs_of main_v2 (by decide) (by decide))).trans (end_k m c),
     ((h c).2 main_v3 (Pipeline.mem_restRefs_of main_v3 (by decide) (by decide))).trans (end_v m c),
     ((h c).1 13).trans ((arr_c m c).trans (codes_eq _)),
     ((h c).1 14).trans ((arr_s m c).trans (scales_eq _))⟩) (run_main (F := Ideal) m ρ)

end Cert.ReferenceIdeal.Gen

end
-- ==== Proof.Algebraic.lean ====
/- The kernel and the reference end with equal results: both hold the specified functions of the argument arrays. -/
module

public import proofs.«01_k».proof.Defs
public import proofs.«01_k».proof.Proof.Ends
public import proofs.«01_k».proof.Proof.RefEnds

@[expose] public section

noncomputable section

namespace Cert.Proof

open Idealize.ShloMosaic Idealize.SL.Sem Cert.Rows

theorem algebraic : Cert.algebraic_KernelIdeal_ReferenceIdeal := by
  intro m g m' g' _ hargs
  refine ⟨fun c => specQ (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => specK (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => specK (m ((c.tc : Thread Cert.KernelIdeal.nD Cert.KernelIdeal.τ).loc Cert.KernelIdeal.main_arg0))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => specC (m ((c.tc : Thread Cert.KernelIdeal.nD Cert.KernelIdeal.τ).loc Cert.KernelIdeal.main_arg0)),
    fun c => specS (m ((c.tc : Thread Cert.KernelIdeal.nD Cert.KernelIdeal.τ).loc Cert.KernelIdeal.main_arg0)), ?_, ?_⟩
  · refine (θ_run _ _ _).mono (fun r h c => ?_) (θ_run_and (Cert.KernelIdeal.Gen.values m g) (Cert.KernelIdeal.Gen.unchanged m g))
    obtain ⟨r0, r1, r2, r3, r4⟩ := h.1 c
    exact ⟨r0, r1, r2, r3, r4, h.2 c⟩
  · refine (θ_run _ _ _).mono (fun r h c => ?_)
      (θ_run_and (Cert.ReferenceIdeal.Gen.values m' g') (Cert.ReferenceIdeal.Gen.unchanged (F := Ideal) m' g'))
    obtain ⟨a0, a1, a2, a3, a4, a5, a6, a7, a8, a9⟩ := hargs c
    have hv := h.1 c
    rw [a0, a1, a2, a3, a4, a5, a6, a7, a8, a9] at hv
    obtain ⟨r0, r1, r2, r3, r4⟩ := hv
    exact ⟨r0, r1, r2, r3, r4, h.2 c⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_Kernel, frame_KernelIdeal, frame_ReferenceIdeal, preserves, algebraic⟩

end Cert.Proof

end
